-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "log2e" .f32 0x3FB8AA3B#32 (((Real.log 2)⁻¹ : ℝ) : EReal)
  ∧ IdealRules.named_const.Statement Cert.Kernel7Ideal.κ "scale_log2e" .f32 0x3E0293EE#32 (((Real.log 2)⁻¹ * (11863283 / 134217728) : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite7.lean ====
abbrev S4x2048x6144 : Shape := ⟨3, ![4, 2048, 6144]⟩
abbrev S4x2048x128 : Shape := ⟨3, ![4, 2048, 128]⟩
abbrev S4x2048x2048 : Shape := ⟨3, ![4, 2048, 2048]⟩
abbrev S_ : Shape := ⟨0, ![]⟩
abbrev S4x2048x8 : Shape := ⟨3, ![4, 2048, 8]⟩

class Facts : Prop where
  slices_S4x2048x6144_S4x2048x2048_0_0_3072 : S4x2048x6144.Slices ![0, 0, 3072] S4x2048x2048
  bitsLt_bf16_f32 : FTy.bits .bf16 < FTy.bits .f32
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  slices_S4x2048x128_S4x2048x8_0_0_0 : S4x2048x128.Slices ![0, 0, 0] S4x2048x8
  bcast_S_S4x2048x8 : S_.BroadcastsInDim S4x2048x8 (![] : Fin 0 → Fin S4x2048x8.rank)
  reducesTo_S4x2048x8_S_d0_1_2 : S4x2048x8.ReducesTo [0, 1, 2] S_

variable [Facts]

def fn {F : FTy → Type} [FloatOps F] (main_arg0 : FVec F S4x2048x6144 .bf16) (main_arg1 : FVec F S4x2048x128 .f32) : IVec S_ 1 :=
  let main_v0 : FVec F S4x2048x2048 .bf16 := (extractStridedSlice S4x2048x2048 ![0, 0, 3072] · slices_S4x2048x6144_S4x2048x2048_0_0_3072) main_arg0
  let main_v1 : FVec F S4x2048x2048 .f32 := (extf .f32 · bitsLt_bf16_f32) main_v0
  let main_v2 : FVec F S4x2048x2048 .f32 := Host.absf main_v1
  let main_cst : FVec F S_ .f32 := constant S_ .f32 0x7F800000#32
  let main_v3 : FVec F S4x2048x2048 .f32 := broadcastInDim S4x2048x2048 ![] bcast_S_S4x2048x2048 main_cst
  let main_v4 : IVec S4x2048x2048 1 := cmpf .olt main_v2 main_v3
  let main_c : IVec S_ 1 := constantI S_ 1 1#1
  let main_v5 : IVec S_ 1 := (fun x v => Host.reduce IntOp.andi x v reducesTo_S4x2048x2048_S_d0_1_2 h_S_) main_v4 main_c
  let main_v6 : FVec F S4x2048x8 .f32 := (extractStridedSlice S4x2048x8 ![0, 0, 0] · slices_S4x2048x128_S4x2048x8_0_0_0) main_arg1
  let main_v7 : FVec F S4x2048x8 .f32 := Host.absf main_v6
  let main_cst_0 : FVec F S_ .f32 := constant S_ .f32 0x7F800000#32
  let main_v8 : FVec F S4x2048x8 .f32 := broadcastInDim S4x2048x8 ![] bcast_S_S4x2048x8 main_cst_0
  let main_v9 : IVec S4x2048x8 1 := cmpf .olt main_v7 main_v8
  let main_c_1 : IVec S_ 1 := constantI S_ 1 1#1
  let main_v10 : IVec S_ 1 := (fun x v => Host.reduce IntOp.andi x v reducesTo_S4x2048x8_S_d0_1_2 h_S_) main_v9 main_c_1
  let main_v11 : IVec S_ 1 := andi main_v5 main_v10
  main_v11
-- ==== Kernel.lean ====
abbrev S4x2048x2048 : Shape := ⟨3, ![4, 2048, 2048]⟩
abbrev S2x2048x18968 : Shape := ⟨3, ![2, 2048, 18968]⟩
abbrev S8192x2048 : Shape := ⟨2, ![8192, 2048]⟩
abbrev S2x18968x2048 : Shape := ⟨3, ![2, 18968, 2048]⟩
abbrev S8192x8192 : Shape := ⟨2, ![8192, 8192]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S8192x2048, .bf16⟩
  | .hbm, ⟨3, _⟩ => ⟨S2x18968x2048, .f32⟩
  | .hbm, ⟨4, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c10776_i32 : BitVec 32 := 10776#32
  let arg1 : BitVec 32 := BitVec.ofNat 32 (i 1).val
  let c1024_i32 : BitVec 32 := 1024#32
  let v0 : BitVec 32 := Scalar.muli arg1 c1024_i32
  let v1 : BitVec 32 := Scalar.addi c10776_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c10776_i32 : BitVec 32 := 10776#32
  let v1 : BitVec 32 := Scalar.addi c10776_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x2048 : Shape := ⟨3, ![4, 2048, 2048]⟩
abbrev S2x2048x18968 : Shape := ⟨3, ![2, 2048, 18968]⟩
abbrev S1x2048x18968 : Shape := ⟨3, ![1, 2048, 18968]⟩
abbrev S2048x18968 : Shape := ⟨2, ![2048, 18968]⟩
abbrev S4x2048x18968 : Shape := ⟨3, ![4, 2048, 18968]⟩
abbrev S4x2048x8192 : Shape := ⟨3, ![4, 2048, 8192]⟩
abbrev S_ : Shape := ⟨0, ![]⟩
abbrev S8192x8192 : Shape := ⟨2, ![8192, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S4x2048x2048, .f32⟩
  | .hbm, ⟨3, _⟩ => ⟨S1x2048x18968, .f32⟩
  | .hbm, ⟨4, _⟩ => ⟨S2048x18968, .f32⟩
  | .hbm, ⟨5, _⟩ => ⟨S4x2048x18968, .f32⟩
  | .hbm, ⟨6, _⟩ => ⟨S4x2048x8192, .f32⟩
  | .hbm, ⟨7, _⟩ => ⟨S4x2048x8192, .f32⟩
  | .hbm, ⟨8, _⟩ => ⟨S4x2048x8192, .f32⟩
  | .hbm, ⟨9, _⟩ => ⟨S_, .f32⟩
  | .hbm, ⟨10, _⟩ => ⟨S4x2048x8192, .f32⟩
  | .hbm, ⟨11, _⟩ => ⟨S4x2048x8192, .f32⟩
  | .hbm, ⟨12, _⟩ => ⟨S_, .f32⟩
  | .hbm, ⟨13, _⟩ => ⟨S4x2048x8192, .f32⟩
  | .hbm, ⟨14, _⟩ => ⟨S4x2048x8192, .f32⟩
  | .hbm, ⟨15, _⟩ => ⟨S8192x8192, .f32⟩
  | .hbm, ⟨16, _⟩ => ⟨S8192x8192, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel2.lean ====
abbrev S4x2048x2048 : Shape := ⟨3, ![4, 2048, 2048]⟩
abbrev S2x2048x11264 : Shape := ⟨3, ![2, 2048, 11264]⟩
abbrev S2x5632x2048 : Shape := ⟨3, ![2, 5632, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S_ : Shape := ⟨0, ![]⟩
abbrev S2048x512 : Shape := ⟨2, ![2048, 512]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x512x2048, .f32⟩
  | .local _ .vmem, ⟨8, _⟩ => ⟨S1x512x2048, .f32⟩
  | .local _ .vmem, ⟨9, _⟩ => ⟨S1024x2048, .f32⟩
  | .local _ .vmem, ⟨10, _⟩ => ⟨S1024x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v42 : BitVec 32 := Scalar.muli arg0 c1024_i32
  v42
def k0_off1 (i : grid0.Coords) : Fin 2 → Nat :=
  let arg0 : BitVec 32 := BitVec.ofNat 32 (i 0).val
  let c1024_i32 : BitVec 32 := 1024#32
  let v42 : BitVec 32 := Scalar.muli arg0 c1024_i32
  let v43 : BitVec 32 := v42
  let c0_i32_23 : BitVec 32 := 0#32
  ![v43.toNat, 0]
def k0_cond2 (i : grid0.Coords) : BitVec 1 :=
  let arg1 : BitVec 32 := BitVec.ofNat 32 (i 1).val
  let c0_i32_12 : BitVec 32 := 0#32
  let v26 : BitVec 1 := Scalar.cmpi .eq arg1 c0_i32_12
  let v27 : BitVec 32 := Scalar.extui v26
  let c0_i32_13 : BitVec 32 := 0#32
  let v28 : BitVec 1 := Scalar.cmpi .ne v27 c0_i32_13
  v28

def k0_mult2 (i : grid0.Coords) : BitVec 32 :=
  let arg0 : BitVec 32 := BitVec.ofNat 32 (i 0).val
  let c1024_i32 : BitVec 32 := 1024#32
  let v42 : BitVec 32 := Scalar.muli arg0 c1024_i32
  v42
def k0_off2 (i : grid0.Coords) : Fin 2 → Nat :=
  let arg0 : BitVec 32 := BitVec.ofNat 32 (i 0).val
  let c1024_i32 : BitVec 32 := 1024#32
  let v42 : BitVec 32 := Scalar.muli arg0 c1024_i32
  let v43 : BitVec 32 := v42
  let c0_i32_23 : BitVec 32 := 0#32
  ![v43.toNat, 0]
def k0_cond3 (i : grid0.Coords) : BitVec 1 :=
  let arg1 : BitVec 32 := BitVec.ofNat 32 (i 1).val
  let c10_i32 : BitVec 32 := 10#32
  let v39 : BitVec 1 := Scalar.cmpi .eq arg1 c10_i32
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference2Ideal.lean ====
abbrev S4x2048x2048 : Shape := ⟨3, ![4, 2048, 2048]⟩
abbrev S2x2048x11264 : Shape := ⟨3, ![2, 2048, 11264]⟩
abbrev S2x5632x2048 : Shape := ⟨3, ![2, 5632, 2048]⟩
abbrev S2048 : Shape := ⟨1, ![2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x11264 : Shape := ⟨3, ![4, 2048, 11264]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S4x2048x2048, .f32⟩
  | .hbm, ⟨6, _⟩ => ⟨S1x2048x11264, .f32⟩
  | .hbm, ⟨7, _⟩ => ⟨S2048x11264, .f32⟩
  | .hbm, ⟨8, _⟩ => ⟨S1x5632x2048, .f32⟩
  | .hbm, ⟨9, _⟩ => ⟨S5632x2048, .f32⟩
  | .hbm, ⟨10, _⟩ => ⟨S4x2048x11264, .f32⟩
  | .hbm, ⟨11, _⟩ => ⟨S4x2048x5632, .f32⟩
  | .hbm, ⟨12, _⟩ => ⟨S4x2048x5632, .f32⟩
  | .hbm, ⟨13, _⟩ => ⟨S4x2048x5632, .f32⟩
  | .hbm, ⟨14, _⟩ => ⟨S4x2048x5632, .f32⟩
  | .hbm, ⟨15, _⟩ => ⟨S_, .f32⟩
  | .hbm, ⟨16, _⟩ => ⟨S4x2048x5632, .f32⟩
  | .hbm, ⟨17, _⟩ => ⟨S4x2048x5632, .f32⟩
  | .hbm, ⟨18, _⟩ => ⟨S_, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S4x2048x5632, .f32⟩
  | .hbm, ⟨23, _⟩ => ⟨S4x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel3.lean ====
abbrev S4x2048x2048 : Shape := ⟨3, ![4, 2048, 2048]⟩
abbrev S2x2048x18968 : Shape := ⟨3, ![2, 2048, 18968]⟩
abbrev S8192x2048 : Shape := ⟨2, ![8192, 2048]⟩
abbrev S2x18968x2048 : Shape := ⟨3, ![2, 18968, 2048]⟩
abbrev S8192x6144 : Shape := ⟨2, ![8192, 6144]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S8192x2048, .bf16⟩
  | .hbm, ⟨3, _⟩ => ⟨S2x18968x2048, .f32⟩
  | .hbm, ⟨4, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_mult1 (i : grid0.Coords) : BitVec 32 :=
  let c4624_i32 : BitVec 32 := 4624#32
  let arg1 : BitVec 32 := BitVec.ofNat 32 (i 1).val
  let c1024_i32 : BitVec 32 := 1024#32
  let v0 : BitVec 32 := Scalar.muli arg1 c1024_i32
  let v1 : BitVec 32 := Scalar.addi c4624_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4624_i32 : BitVec 32 := 4624#32
  let v1 : BitVec 32 := Scalar.addi c4624_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x2048x2048 : Shape := ⟨3, ![4, 2048, 2048]⟩
abbrev S2x2048x18968 : Shape := ⟨3, ![2, 2048, 18968]⟩
abbrev S1x2048x18968 : Shape := ⟨3, ![1, 2048, 18968]⟩
abbrev S2048x18968 : Shape := ⟨2, ![2048, 18968]⟩
abbrev S4x2048x18968 : Shape := ⟨3, ![4, 2048, 18968]⟩
abbrev S4x2048x6144 : Shape := ⟨3, ![4, 2048, 6144]⟩
abbrev S8192x6144 : Shape := ⟨2, ![8192, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S4x2048x2048, .f32⟩
  | .hbm, ⟨3, _⟩ => ⟨S1x2048x18968, .f32⟩
  | .hbm, ⟨4, _⟩ => ⟨S2048x18968, .f32⟩
  | .hbm, ⟨5, _⟩ => ⟨S4x2048x18968, .f32⟩
  | .hbm, ⟨6, _⟩ => ⟨S4x2048x6144, .f32⟩
  | .hbm, ⟨7, _⟩ => ⟨S8192x6144, .f32⟩
  | .hbm, ⟨8, _⟩ => ⟨S8192x6144, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S4x2048x2048 : Shape := ⟨3, ![4, 2048, 2048]⟩
abbrev S2x2048x18968 : Shape := ⟨3, ![2, 2048, 18968]⟩
abbrev S8192x2048 : Shape := ⟨2, ![8192, 2048]⟩
abbrev S2x18968x2048 : Shape := ⟨3, ![2, 18968, 2048]⟩
abbrev S8192x4608 : Shape := ⟨2, ![8192, 4608]⟩
abbrev S2048x2048 : Shape := ⟨2, ![2048, 2048]⟩
abbrev S1x768x2048 : Shape := ⟨3, ![1, 768, 2048]⟩
abbrev S2048x768 : Shape := ⟨2, ![2048, 768]⟩
abbrev S768x2048 : Shape := ⟨2, ![768, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S8192x2048, .bf16⟩
  | .hbm, ⟨3, _⟩ => ⟨S2x18968x2048, .f32⟩
  | .hbm, ⟨4, _⟩ => ⟨S8192x4608, .bf16⟩
  | .local _ .vmem, ⟨0, _⟩ => ⟨S2048x2048, .bf16⟩
  | .local _ .vmem, ⟨1, _⟩ => ⟨S2048x2048, .bf16⟩
  | .local _ .vmem, ⟨2, _⟩ => ⟨S1x768x2048, .f32⟩
  | .local _ .vmem, ⟨3, _⟩ => ⟨S1x768x2048, .f32⟩
  | .local _ .vmem, ⟨4, _⟩ => ⟨S2048x768, .bf16⟩
  | .local _ .vmem, ⟨5, _⟩ => ⟨S2048x768, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_mult1 (i : grid0.Coords) : BitVec 32 :=
  let c0_i32 : BitVec 32 := 0#32
  let arg1 : BitVec 32 := BitVec.ofNat 32 (i 1).val
  let c768_i32 : BitVec 32 := 768#32
  let v0 : BitVec 32 := Scalar.muli arg1 c768_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c768_i32 : BitVec 32 := 768#32
  let v0 : BitVec 32 := Scalar.muli arg1 c768_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x2048x2048 : Shape := ⟨3, ![4, 2048, 2048]⟩
abbrev S2x2048x18968 : Shape := ⟨3, ![2, 2048, 18968]⟩
abbrev S1x2048x18968 : Shape := ⟨3, ![1, 2048, 18968]⟩
abbrev S2048x18968 : Shape := ⟨2, ![2048, 18968]⟩
abbrev S4x2048x18968 : Shape := ⟨3, ![4, 2048, 18968]⟩
abbrev S4x2048x4608 : Shape := ⟨3, ![4, 2048, 4608]⟩
abbrev S8192x4608 : Shape := ⟨2, ![8192, 4608]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S4x2048x2048, .f32⟩
  | .hbm, ⟨3, _⟩ => ⟨S1x2048x18968, .f32⟩
  | .hbm, ⟨4, _⟩ => ⟨S2048x18968, .f32⟩
  | .hbm, ⟨5, _⟩ => ⟨S4x2048x18968, .f32⟩
  | .hbm, ⟨6, _⟩ => ⟨S4x2048x4608, .f32⟩
  | .hbm, ⟨7, _⟩ => ⟨S8192x4608, .f32⟩
  | .hbm, ⟨8, _⟩ => ⟨S8192x4608, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x2048x8192 : Shape := ⟨3, ![4, 2048, 8192]⟩
abbrev S2x4x1024x2048 : Shape := ⟨4, ![2, 4, 1024, 2048]⟩
abbrev S8192x1024 : Shape := ⟨2, ![8192, 1024]⟩
abbrev S8192x8192 : Shape := ⟨2, ![8192, 8192]⟩
abbrev S8192x2048 : Shape := ⟨2, ![8192, 2048]⟩
abbrev S1024x1024 : Shape := ⟨2, ![1024, 1024]⟩
abbrev S1024x512 : Shape := ⟨2, ![1024, 512]⟩
abbrev S1x4x1024x512 : Shape := ⟨4, ![1, 4, 1024, 512]⟩
abbrev S1x1x1024x512 : Shape := ⟨4, ![1, 1, 1024, 512]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S4x2048x8192, .bf16⟩
  | .hbm, ⟨5, _⟩ => ⟨S2x4x1024x2048, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x8192, .bf16⟩
  | .hbm, ⟨11, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1x4x1024x512, .f32⟩
  | .local _ .vmem, ⟨17, _⟩ => ⟨S1x4x1024x512, .f32⟩
  | .local _ .vmem, ⟨18, _⟩ => ⟨S1024x512, .bf16⟩
  | .local _ .vmem, ⟨19, _⟩ => ⟨S1024x512, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S4x2048x1024 : Shape := ⟨3, ![4, 2048, 1024]⟩
abbrev S4x2048x8192 : Shape := ⟨3, ![4, 2048, 8192]⟩
abbrev S2x4x1024x2048 : Shape := ⟨4, ![2, 4, 1024, 2048]⟩
abbrev S4x2048x2048 : Shape := ⟨3, ![4, 2048, 2048]⟩
abbrev S1x1x1024x2048 : Shape := ⟨4, ![1, 1, 1024, 2048]⟩
abbrev S1024x2048 : Shape := ⟨2, ![1024, 2048]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S4x2048x8192, .bf16⟩
  | .hbm, ⟨5, _⟩ => ⟨S2x4x1024x2048, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x8192, .f32⟩
  | .hbm, ⟨11, _⟩ => ⟨S4x2048x2048, .f32⟩
  | .hbm, ⟨12, _⟩ => ⟨S1x1x1024x2048, .f32⟩
  | .hbm, ⟨13, _⟩ => ⟨S1024x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S1x1x1024x2048, .f32⟩
  | .hbm, ⟨18, _⟩ => ⟨S1024x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S1x1x1024x2048, .f32⟩
  | .hbm, ⟨24, _⟩ => ⟨S1024x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S1x1x1024x2048, .f32⟩
  | .hbm, ⟨30, _⟩ => ⟨S1024x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S8192x2048, .f32⟩
  | .hbm, ⟨35, _⟩ => ⟨S8192x2048, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel6.lean ====
abbrev S4x2048x2048 : Shape := ⟨3, ![4, 2048, 2048]⟩
abbrev S2x2048x2048 : Shape := ⟨3, ![2, 2048, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S2x2048x2048, .f32⟩
  | .hbm, ⟨3, _⟩ => ⟨S2x2048, .f32⟩
  | .hbm, ⟨4, _⟩ => ⟨S8192x2048, .bf16⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4x2048x2048 : Shape := ⟨3, ![4, 2048, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S2x2048x2048, .f32⟩
  | .hbm, ⟨3, _⟩ => ⟨S2x2048, .f32⟩
  | .hbm, ⟨4, _⟩ => ⟨S4x2048x2048, .f32⟩
  | .hbm, ⟨5, _⟩ => ⟨S1x2048x2048, .f32⟩
  | .hbm, ⟨6, _⟩ => ⟨S2048x2048, .f32⟩
  | .hbm, ⟨7, _⟩ => ⟨S4x2048x2048, .f32⟩
  | .hbm, ⟨8, _⟩ => ⟨S4x2048x2048, .f32⟩
  | .hbm, ⟨9, _⟩ => ⟨S1x2048, .f32⟩
  | .hbm, ⟨10, _⟩ => ⟨S2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel7.lean ====
abbrev S4x2048x6144 : Shape := ⟨3, ![4, 2048, 6144]⟩
abbrev S4x2048x128 : Shape := ⟨3, ![4, 2048, 128]⟩
abbrev S8192x6144 : Shape := ⟨2, ![8192, 6144]⟩
abbrev S8192x128 : Shape := ⟨2, ![8192, 128]⟩
abbrev S4x128x2048 : Shape := ⟨3, ![4, 128, 2048]⟩
abbrev S8192x1024 : Shape := ⟨2, ![8192, 1024]⟩
abbrev S512x512 : Shape := ⟨2, ![512, 512]⟩
abbrev S2048x512 : Shape := ⟨2, ![2048, 512]⟩
abbrev S512x128 : Shape := ⟨2, ![512, 128]⟩
abbrev S1x8x2048 : Shape := ⟨3, ![1, 8, 2048]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x128, .f32⟩
  | .hbm, ⟨2, _⟩ => ⟨S8192x6144, .bf16⟩
  | .hbm, ⟨3, _⟩ => ⟨S8192x128, .f32⟩
  | .hbm, ⟨4, _⟩ => ⟨S4x128x2048, .f32⟩
  | .hbm, ⟨5, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x128, .f32⟩
  | .local _ .vmem, ⟨7, _⟩ => ⟨S512x128, .f32⟩
  | .local _ .vmem, ⟨8, _⟩ => ⟨S1x8x2048, .f32⟩
  | .local _ .vmem, ⟨9, _⟩ => ⟨S1x8x2048, .f32⟩
  | .local _ .vmem, ⟨10, _⟩ => ⟨S512x512, .bf16⟩
  | .local _ .vmem, ⟨11, _⟩ => ⟨S512x512, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

@[reducible] def k0_t1_loop (i : grid0.Coords) : Scf.Loop 32 :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_35 : BitVec 32 := 1#32
  ⟨c0_i32_33, v68, c1_i32_35⟩
def k0_mult1 (i : grid0.Coords) (k0_t1 : Fin (k0_t1_loop i).trips) : BitVec 32 :=
  let c0_i32_33 : BitVec 32 := 0#32
  let c1_i32_35 : BitVec 32 := 1#32
  let arg9 : BitVec 32 := Scf.iv c0_i32_33 c1_i32_35 k0_t1
  let c512_i32_100 : BitVec 32 := 512#32
  let v262 : BitVec 32 := Scalar.muli arg9 c512_i32_100
  v262
def k0_off1 (i : grid0.Coords) (k0_t1 : Fin (k0_t1_loop i).trips) : Fin 2 → Nat :=
  let c0_i32_33 : BitVec 32 := 0#32
  let c1_i32_35 : BitVec 32 := 1#32
  let arg9 : BitVec 32 := Scf.iv c0_i32_33 c1_i32_35 k0_t1
  let c512_i32_100 : BitVec 32 := 512#32
  let v262 : BitVec 32 := Scalar.muli arg9 c512_i32_100
  let v263 : BitVec 32 := v262
  let v264 : Index := Scalar.indexCast v263
  let c0_101 : Index := 0#32
  ![v264.toNat, 0]
def k0_off2 (i : grid0.Coords) (k0_t1 : Fin (k0_t1_loop i).trips) (c0_i32_106 : BitVec 32) : Fin 3 → Nat :=
  let c0_107 : Index := 0#32
  let c0_i32_105 : BitVec 32 := 0#32
  let arg1 : BitVec 32 := BitVec.ofNat 32 (i 1).val
  let c4_i32_104 : BitVec 32 := 4#32
  let v272 : BitVec 32 := Scalar.muli arg1 c4_i32_104
  let v273 : BitVec 32 := Scalar.addi c0_i32_105 v272
  let v274 : BitVec 32 := Scalar.addi v273 c0_i32_106
  let v275 : Index := Scalar.indexCast v274
  let c0_i32_33 : BitVec 32 := 0#32
  let c1_i32_35 : BitVec 32 := 1#32
  let arg9 : BitVec 32 := Scf.iv c0_i32_33 c1_i32_35 k0_t1
  let c512_i32_100 : BitVec 32 := 512#32
  let v262 : BitVec 32 := Scalar.muli arg9 c512_i32_100
  let v263 : BitVec 32 := v262
  let v276 : Index := Scalar.indexCast v263
  ![0, v275.toNat, v276.toNat]
def k0_mult2 (i : grid0.Coords) (k0_t1 : Fin (k0_t1_loop i).trips) : BitVec 32 :=
  let c0_i32_33 : BitVec 32 := 0#32
  let c1_i32_35 : BitVec 32 := 1#32
  let arg9 : BitVec 32 := Scf.iv c0_i32_33 c1_i32_35 k0_t1
  let c512_i32_113 : BitVec 32 := 512#32
  let v303 : BitVec 32 := Scalar.muli arg9 c512_i32_113
  v303
def k0_off3 (i : grid0.Coords) (k0_t1 : Fin (k0_t1_loop i).trips) : Fin 2 → Nat :=
  let c0_i32_33 : BitVec 32 := 0#32
  let c1_i32_35 : BitVec 32 := 1#32
  let arg9 : BitVec 32 := Scf.iv c0_i32_33 c1_i32_35 k0_t1
  let c512_i32_113 : BitVec 32 := 512#32
  let v303 : BitVec 32 := Scalar.muli arg9 c512_i32_113
  let v304 : BitVec 32 := v303
  let v305 : Index := Scalar.indexCast v304
  let c128_114 : Index := 128#32
  ![v305.toNat, 128]
def k0_mult3 (i : grid0.Coords) (k0_t1 : Fin (k0_t1_loop i).trips) : BitVec 32 :=
  let c0_i32_33 : BitVec 32 := 0#32
  let c1_i32_35 : BitVec 32 := 1#32
  let arg9 : BitVec 32 := Scf.iv c0_i32_33 c1_i32_35 k0_t1
  let c512_i32_126 : BitVec 32 := 512#32
  let v344 : BitVec 32 := Scalar.muli arg9 c512_i32_126
  v344
def k0_off4 (i : grid0.Coords) (k0_t1 : Fin (k0_t1_loop i).trips) : Fin 2 → Nat :=
  let c0_i32_33 : BitVec 32 := 0#32
  let c1_i32_35 : BitVec 32 := 1#32
  let arg9 : BitVec 32 := Scf.iv c0_i32_33 c1_i32_35 k0_t1
  let c512_i32_126 : BitVec 32 := 512#32
  let v344 : BitVec 32 := Scalar.muli arg9 c512_i32_126
  let v345 : BitVec 32 := v344
  let v346 : Index := Scalar.indexCast v345
  let c256_127 : Index := 256#32
  ![v346.toNat, 256]
def k0_mult4 (i : grid0.Coords) (k0_t1 : Fin (k0_t1_loop i).trips) : BitVec 32 :=
  let c0_i32_33 : BitVec 32 := 0#32
  let c1_i32_35 : BitVec 32 := 1#32
  let arg9 : BitVec 32 := Scf.iv c0_i32_33 c1_i32_35 k0_t1
  let c512_i32_139 : BitVec 32 := 512#32
  let v385 : BitVec 32 := Scalar.muli arg9 c512_i32_139
  v385
def k0_off5 (i : grid0.Coords) (k0_t1 : Fin (k0_t1_loop i).trips) : Fin 2 → Nat :=
  let c0_i32_33 : BitVec 32 := 0#32
  let c1_i32_35 : BitVec 32 := 1#32
  let arg9 : BitVec 32 := Scf.iv c0_i32_33 c1_i32_35 k0_t1
  let c512_i32_139 : BitVec 32 := 512#32
  let v385 : BitVec 32 := Scalar.muli arg9 c512_i32_139
  let v386 : BitVec 32 := v385
  let v387 : Index := Scalar.indexCast v386
  let c384_140 : Index := 384#32
  ![v387.toNat, 384]
@[reducible] def k0_t2_loop (i : grid0.Coords) : Scf.Loop 32 :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let v65 : BitVec 32 := Scalar.addi c0_i32_33 v64
  let c1_i32_36 : BitVec 32 := 1#32
  ⟨v68, v65, c1_i32_36⟩
def k0_mult5 (i : grid0.Coords) (k0_t2 : Fin (k0_t2_loop i).trips) : BitVec 32 :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_100 : BitVec 32 := 512#32
  let v262 : BitVec 32 := Scalar.muli arg9 c512_i32_100
  v262
def k0_off6 (i : grid0.Coords) (k0_t2 : Fin (k0_t2_loop i).trips) : Fin 2 → Nat :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_100 : BitVec 32 := 512#32
  let v262 : BitVec 32 := Scalar.muli arg9 c512_i32_100
  let v263 : BitVec 32 := v262
  let v264 : Index := Scalar.indexCast v263
  let c0_101 : Index := 0#32
  ![v264.toNat, 0]
def k0_off7 (i : grid0.Coords) (k0_t2 : Fin (k0_t2_loop i).trips) (c0_i32_106 : BitVec 32) : Fin 3 → Nat :=
  let c0_107 : Index := 0#32
  let c0_i32_105 : BitVec 32 := 0#32
  let arg1 : BitVec 32 := BitVec.ofNat 32 (i 1).val
  let c4_i32_104 : BitVec 32 := 4#32
  let v272 : BitVec 32 := Scalar.muli arg1 c4_i32_104
  let v273 : BitVec 32 := Scalar.addi c0_i32_105 v272
  let v274 : BitVec 32 := Scalar.addi v273 c0_i32_106
  let v275 : Index := Scalar.indexCast v274
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_100 : BitVec 32 := 512#32
  let v262 : BitVec 32 := Scalar.muli arg9 c512_i32_100
  let v263 : BitVec 32 := v262
  let v276 : Index := Scalar.indexCast v263
  ![0, v275.toNat, v276.toNat]
def k0_mult6 (i : grid0.Coords) (k0_t2 : Fin (k0_t2_loop i).trips) : BitVec 32 :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_113 : BitVec 32 := 512#32
  let v303 : BitVec 32 := Scalar.muli arg9 c512_i32_113
  v303
def k0_off8 (i : grid0.Coords) (k0_t2 : Fin (k0_t2_loop i).trips) : Fin 2 → Nat :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_113 : BitVec 32 := 512#32
  let v303 : BitVec 32 := Scalar.muli arg9 c512_i32_113
  let v304 : BitVec 32 := v303
  let v305 : Index := Scalar.indexCast v304
  let c128_114 : Index := 128#32
  ![v305.toNat, 128]
def k0_mult7 (i : grid0.Coords) (k0_t2 : Fin (k0_t2_loop i).trips) : BitVec 32 :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_126 : BitVec 32 := 512#32
  let v344 : BitVec 32 := Scalar.muli arg9 c512_i32_126
  v344
def k0_off9 (i : grid0.Coords) (k0_t2 : Fin (k0_t2_loop i).trips) : Fin 2 → Nat :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_126 : BitVec 32 := 512#32
  let v344 : BitVec 32 := Scalar.muli arg9 c512_i32_126
  let v345 : BitVec 32 := v344
  let v346 : Index := Scalar.indexCast v345
  let c256_127 : Index := 256#32
  ![v346.toNat, 256]
def k0_mult8 (i : grid0.Coords) (k0_t2 : Fin (k0_t2_loop i).trips) : BitVec 32 :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_139 : BitVec 32 := 512#32
  let v385 : BitVec 32 := Scalar.muli arg9 c512_i32_139
  v385
def k0_off10 (i : grid0.Coords) (k0_t2 : Fin (k0_t2_loop i).trips) : Fin 2 → Nat :=
  let c0_i32_33 : BitVec 32 := 0#32
  let arg2 : BitVec 32 := BitVec.ofNat 32 (i 2).val
  let v64 : BitVec 32 := Scalar.subi arg2 c0_i32_33
  let c1_i32_34 : BitVec 32 := 1#32
  let v66 : BitVec 32 := Scalar.divsi v64 c1_i32_34
  let v67 : BitVec 32 := Scalar.muli v66 c1_i32_34
  let v68 : BitVec 32 := Scalar.addi c0_i32_33 v67
  let c1_i32_36 : BitVec 32 := 1#32
  let arg9 : BitVec 32 := Scf.iv v68 c1_i32_36 k0_t2
  let c512_i32_139 : BitVec 32 := 512#32
  let v385 : BitVec 32 := Scalar.muli arg9 c512_i32_139
  let v386 : BitVec 32 := v385
  let v387 : Index := Scalar.indexCast v386
  let c384_140 : Index := 384#32
  ![v387.toNat, 384]
def k0_mult9 (i : grid0.Coords) : BitVec 32 :=
  let arg2 : BitVec 32 := BitVec.ofNat 32 (i 2).val
  let c512_i32 : BitVec 32 := 512#32
  let v74 : BitVec 32 := Scalar.muli arg2 c512_i32
  v74
def k0_off11 (i : grid0.Coords) : Fin 2 → Nat :=
  let arg2 : BitVec 32 := BitVec.ofNat 32 (i 2).val
  let c512_i32 : BitVec 32 := 512#32
  let v74 : BitVec 32 := Scalar.muli arg2 c512_i32
  let v75 : BitVec 32 := v74
  let v76 : Index := Scalar.indexCast v75
  let c0_37 : Index := 0#32
  ![v76.toNat, 0]
def k0_off12 (i : grid0.Coords) (c0_i32_42 : BitVec 32) : Fin 3 → Nat :=
  let c0_43 : Index := 0#32
  let c0_i32_41 : BitVec 32 := 0#32
  let arg1 : BitVec 32 := BitVec.ofNat 32 (i 1).val
  let c4_i32_40 : BitVec 32 := 4#32
  let v84 : BitVec 32 := Scalar.muli arg1 c4_i32_40
  let v85 : BitVec 32 := Scalar.addi c0_i32_41 v84
  let v86 : BitVec 32 := Scalar.addi v85 c0_i32_42
  let v87 : Index := Scalar.indexCast v86
  let arg2 : BitVec 32 := BitVec.ofNat 32 (i 2).val
  let c512_i32 : BitVec 32 := 512#32
  let v74 : BitVec 32 := Scalar.muli arg2 c512_i32
  let v75 : BitVec 32 := v74
  let v88 : Index := Scalar.indexCast v75
  ![0, v87.toNat, v88.toNat]
def k0_mult10 (i : grid0.Coords) : BitVec 32 :=
  let arg2 : BitVec 32 := BitVec.ofNat 32 (i 2).val
  let c512_i32_52 : BitVec 32 := 512#32
  let v121 : BitVec 32 := Scalar.muli arg2 c512_i32_52
  v121
def k0_off13 (i : grid0.Coords) : Fin 2 → Nat :=
  let arg2 : BitVec 32 := BitVec.ofNat 32 (i 2).val
  let c512_i32_52 : BitVec 32 := 512#32
  let v121 : BitVec 32 := Scalar.muli arg2 c512_i32_52
  let v122 : BitVec 32 := v121
  let v123 : Index := Scalar.indexCast v122
  let c128_53 : Index := 128#32
  ![v123.toNat, 128]
def k0_mult11 (i : grid0.Coords) : BitVec 32 :=
  let arg2 : BitVec 32 := BitVec.ofNat 32 (i 2).val
  let c512_i32_68 : BitVec 32 := 512#32
  let v168 : BitVec 32 := Scalar.muli arg2 c512_i32_68
  v168
def k0_off14 (i : grid0.Coords) : Fin 2 → Nat :=
  let arg2 : BitVec 32 := BitVec.ofNat 32 (i 2).val
  let c512_i32_68 : BitVec 32 := 512#32
  let v168 : BitVec 32 := Scalar.muli arg2 c512_i32_68
  let v169 : BitVec 32 := v168
  let v170 : Index := Scalar.indexCast v169
  let c256_69 : Index := 256#32
  ![v170.toNat, 256]
def k0_mult12 (i : grid0.Coords) : BitVec 32 :=
  let arg2 : BitVec 32 := BitVec.ofNat 32 (i 2).val
  let c512_i32_84 : BitVec 32 := 512#32
  let v215 : BitVec 32 := Scalar.muli arg2 c512_i32_84
  v215
def k0_off15 (i : grid0.Coords) : Fin 2 → Nat :=
  let arg2 : BitVec 32 := BitVec.ofNat 32 (i 2).val
  let c512_i32_84 : BitVec 32 := 512#32
  let v215 : BitVec 32 := Scalar.muli arg2 c512_i32_84
  let v216 : BitVec 32 := v215
  let v217 : Index := Scalar.indexCast v216
  let c384_85 : Index := 384#32
  ![v217.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel7Ideal.lean ====
variable {F : FTy → Type} [FloatOps F] [Named F]
def κ : String → Option EReal := fun
  | "log2e" => some (((Real.log 2)⁻¹ : ℝ) : EReal)
  | "scale_log2e" => some (((Real.log 2)⁻¹ * (11863283 / 134217728) : ℝ) : EReal)
  | _ => none
-- ==== Reference7Ideal.lean ====
abbrev S4x2048x6144 : Shape := ⟨3, ![4, 2048, 6144]⟩
abbrev S4x2048x128 : Shape := ⟨3, ![4, 2048, 128]⟩
abbrev S4x2048x3072 : Shape := ⟨3, ![4, 2048, 3072]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S4x8x2048 : Shape := ⟨3, ![4, 8, 2048]⟩
abbrev S2048 : Shape := ⟨1, ![2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x128x2048 : Shape := ⟨4, ![4, 8, 128, 2048]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x128, .f32⟩
  | .hbm, ⟨2, _⟩ => ⟨S4x2048x3072, .bf16⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x8x128, .f32⟩
  | .hbm, ⟨8, _⟩ => ⟨S4x2048x8x128, .f32⟩
  | .hbm, ⟨9, _⟩ => ⟨S4x2048x8x128, .f32⟩
  | .hbm, ⟨10, _⟩ => ⟨S4x2048x8, .f32⟩
  | .hbm, ⟨11, _⟩ => ⟨S4x8x2048, .f32⟩
  | .hbm, ⟨12, _⟩ => ⟨S2048, .i32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S4x8x2048x1, .f32⟩
  | .hbm, ⟨18, _⟩ => ⟨S4x8x2048x2048, .f32⟩
  | .hbm, ⟨19, _⟩ => ⟨S4x8x2048x2048, .f32⟩
  | .hbm, ⟨20, _⟩ => ⟨S4x8x1x2048, .f32⟩
  | .hbm, ⟨21, _⟩ => ⟨S4x8x2048x2048, .f32⟩
  | .hbm, ⟨22, _⟩ => ⟨S4x8x2048x2048, .f32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S_, .f32⟩
  | .hbm, ⟨37, _⟩ => ⟨S4x8x2048, .f32⟩
  | .hbm, ⟨38, _⟩ => ⟨S4x8x2048, .f32⟩
  | .hbm, ⟨39, _⟩ => ⟨S4x8x2048x1, .f32⟩
  | .hbm, ⟨40, _⟩ => ⟨S4x8x2048x2048, .f32⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S4x8x2048, .f32⟩
  | .hbm, ⟨45, _⟩ => ⟨S4x8x2048x1, .f32⟩
  | .hbm, ⟨46, _⟩ => ⟨S4x8x2048x2048, .f32⟩
  | .hbm, ⟨47, _⟩ => ⟨S4x8x2048x2048, .f32⟩
  | .hbm, ⟨48, _⟩ => ⟨S4x8x128x2048, .f32⟩
  | .hbm, ⟨49, _⟩ => ⟨S4x2048x8x128, .f32⟩
  | .hbm, ⟨50, _⟩ => ⟨S8192x1024, .f32⟩
  | .hbm, ⟨51, _⟩ => ⟨S8192x1024, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel8.lean ====
abbrev S4x2048x2048 : Shape := ⟨3, ![4, 2048, 2048]⟩
abbrev S2x2048x11264 : Shape := ⟨3, ![2, 2048, 11264]⟩
abbrev S2x5632x2048 : Shape := ⟨3, ![2, 5632, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S_ : Shape := ⟨0, ![]⟩
abbrev S2048x512 : Shape := ⟨2, ![2048, 512]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩
abbrev S1024 : Shape := ⟨1, ![1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S2x2048x11264, .f32⟩
  | .hbm, ⟨3, _⟩ => ⟨S2x5632x2048, .f32⟩
  | .hbm, ⟨4, _⟩ => ⟨S2x2048, .f32⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x512x2048, .f32⟩
  | .local _ .vmem, ⟨8, _⟩ => ⟨S1x512x2048, .f32⟩
  | .local _ .vmem, ⟨9, _⟩ => ⟨S1024x2048, .f32⟩
  | .local _ .vmem, ⟨10, _⟩ => ⟨S1024x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v41 : BitVec 32 := Scalar.muli arg0 c1024_i32
  v41
def k0_off1 (i : grid0.Coords) : Fin 2 → Nat :=
  let arg0 : BitVec 32 := BitVec.ofNat 32 (i 0).val
  let c1024_i32 : BitVec 32 := 1024#32
  let v41 : BitVec 32 := Scalar.muli arg0 c1024_i32
  let v42 : BitVec 32 := v41
  let c0_i32_23 : BitVec 32 := 0#32
  ![v42.toNat, 0]
def k0_cond2 (i : grid0.Coords) : BitVec 1 :=
  let arg1 : BitVec 32 := BitVec.ofNat 32 (i 1).val
  let c0_i32_12 : BitVec 32 := 0#32
  let v26 : BitVec 1 := Scalar.cmpi .eq arg1 c0_i32_12
  let v27 : BitVec 32 := Scalar.extui v26
  let c0_i32_13 : BitVec 32 := 0#32
  let v28 : BitVec 1 := Scalar.cmpi .ne v27 c0_i32_13
  v28

def k0_mult2 (i : grid0.Coords) : BitVec 32 :=
  let arg0 : BitVec 32 := BitVec.ofNat 32 (i 0).val
  let c1024_i32 : BitVec 32 := 1024#32
  let v41 : BitVec 32 := Scalar.muli arg0 c1024_i32
  v41
def k0_off2 (i : grid0.Coords) : Fin 2 → Nat :=
  let arg0 : BitVec 32 := BitVec.ofNat 32 (i 0).val
  let c1024_i32 : BitVec 32 := 1024#32
  let v41 : BitVec 32 := Scalar.muli arg0 c1024_i32
  let v42 : BitVec 32 := v41
  let c0_i32_23 : BitVec 32 := 0#32
  ![v42.toNat, 0]
def k0_cond3 (i : grid0.Coords) : BitVec 1 :=
  let arg1 : BitVec 32 := BitVec.ofNat 32 (i 1).val
  let c10_i32 : BitVec 32 := 10#32
  let v38 : BitVec 1 := Scalar.cmpi .eq arg1 c10_i32
  let v39 : BitVec 32 := Scalar.extui v38
  let c0_i32_22 : BitVec 32 := 0#32
  let v40 : BitVec 1 := Scalar.cmpi .ne v39 c0_i32_22
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference8Ideal.lean ====
abbrev S4x2048x2048 : Shape := ⟨3, ![4, 2048, 2048]⟩
abbrev S2x2048x11264 : Shape := ⟨3, ![2, 2048, 11264]⟩
abbrev S2x5632x2048 : Shape := ⟨3, ![2, 5632, 2048]⟩
abbrev S2x2048 : Shape := ⟨2, ![2, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S4x2048x11264 : Shape := ⟨3, ![4, 2048, 11264]⟩
abbrev S4x2048x5632 : Shape := ⟨3, ![4, 2048, 5632]⟩
abbrev S_ : Shape := ⟨0, ![]⟩
abbrev S1x2048 : Shape := ⟨2, ![1, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S2x2048x11264, .f32⟩
  | .hbm, ⟨3, _⟩ => ⟨S2x5632x2048, .f32⟩
  | .hbm, ⟨4, _⟩ => ⟨S2x2048, .f32⟩
  | .hbm, ⟨5, _⟩ => ⟨S4x2048x2048, .f32⟩
  | .hbm, ⟨6, _⟩ => ⟨S1x2048x11264, .f32⟩
  | .hbm, ⟨7, _⟩ => ⟨S2048x11264, .f32⟩
  | .hbm, ⟨8, _⟩ => ⟨S1x5632x2048, .f32⟩
  | .hbm, ⟨9, _⟩ => ⟨S5632x2048, .f32⟩
  | .hbm, ⟨10, _⟩ => ⟨S4x2048x11264, .f32⟩
  | .hbm, ⟨11, _⟩ => ⟨S4x2048x5632, .f32⟩
  | .hbm, ⟨12, _⟩ => ⟨S4x2048x5632, .f32⟩
  | .hbm, ⟨13, _⟩ => ⟨S4x2048x5632, .f32⟩
  | .hbm, ⟨14, _⟩ => ⟨S4x2048x5632, .f32⟩
  | .hbm, ⟨15, _⟩ => ⟨S_, .f32⟩
  | .hbm, ⟨16, _⟩ => ⟨S4x2048x5632, .f32⟩
  | .hbm, ⟨17, _⟩ => ⟨S4x2048x5632, .f32⟩
  | .hbm, ⟨18, _⟩ => ⟨S_, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S4x2048x5632, .f32⟩
  | .hbm, ⟨23, _⟩ => ⟨S4x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S1x2048, .f32⟩
  | .hbm, ⟨29, _⟩ => ⟨S2048, .f32⟩
  | .hbm, ⟨30, _⟩ => ⟨S4x2048x2048, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S1x1x2048, .f32⟩
  | .hbm, ⟨44, _⟩ => ⟨S4x2048x2048, .f32⟩
  | .hbm, ⟨45, _⟩ => ⟨S4x2048x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel9.lean ====
abbrev S4x2048x2048 : Shape := ⟨3, ![4, 2048, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4x2048x2048 : Shape := ⟨3, ![4, 2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S8192x2048, .f32⟩
  | .hbm, ⟨21, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel10.lean ====
abbrev S4x2048x2048 : Shape := ⟨3, ![4, 2048, 2048]⟩
abbrev S2x2048x18968 : Shape := ⟨3, ![2, 2048, 18968]⟩
abbrev S8192x2048 : Shape := ⟨2, ![8192, 2048]⟩
abbrev S2x18968x2048 : Shape := ⟨3, ![2, 18968, 2048]⟩
abbrev S8192x128 : Shape := ⟨2, ![8192, 128]⟩
abbrev S2048x2048 : Shape := ⟨2, ![2048, 2048]⟩
abbrev S1x8x2048 : Shape := ⟨3, ![1, 8, 2048]⟩
abbrev S1x16x2048 : Shape := ⟨3, ![1, 16, 2048]⟩
abbrev S2048x128 : Shape := ⟨2, ![2048, 128]⟩
abbrev S104x2048 : Shape := ⟨2, ![104, 2048]⟩
abbrev S8x2048 : Shape := ⟨2, ![8, 2048]⟩
abbrev S16x2048 : Shape := ⟨2, ![16, 2048]⟩
abbrev S128x2048 : Shape := ⟨2, ![128, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S8192x2048, .bf16⟩
  | .hbm, ⟨3, _⟩ => ⟨S2x18968x2048, .f32⟩
  | .hbm, ⟨4, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S1x8x2048, .f32⟩
  | .local _ .vmem, ⟨3, _⟩ => ⟨S1x16x2048, .f32⟩
  | .local _ .vmem, ⟨4, _⟩ => ⟨S2048x128, .f32⟩
  | .local _ .vmem, ⟨5, _⟩ => ⟨S2048x128, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1346_i32 : BitVec 32 := 1346#32
  let c0_i32_0 : BitVec 32 := 0#32
  let c0_i32_1 : BitVec 32 := 0#32
  ![c0_i32.toNat, c1346_i32.toNat, c0_i32_0.toNat]

def cc0_transform_2 (i : grid0.Coords) : Fin 3 → Nat :=
  let arg0 : BitVec 32 := BitVec.ofNat 32 (i 0).val
  let c0_i32 : BitVec 32 := 0#32
  let c288_i32 : BitVec 32 := 288#32
  let c0_i32_0 : BitVec 32 := 0#32
  let c0_i32_1 : BitVec 32 := 0#32
  ![c0_i32.toNat, c288_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4x2048x2048 : Shape := ⟨3, ![4, 2048, 2048]⟩
abbrev S2x2048x18968 : Shape := ⟨3, ![2, 2048, 18968]⟩
abbrev S1x2048x18968 : Shape := ⟨3, ![1, 2048, 18968]⟩
abbrev S2048x18968 : Shape := ⟨2, ![2048, 18968]⟩
abbrev S4x2048x18968 : Shape := ⟨3, ![4, 2048, 18968]⟩
abbrev S4x2048x8 : Shape := ⟨3, ![4, 2048, 8]⟩
abbrev S4x2048x16 : Shape := ⟨3, ![4, 2048, 16]⟩
abbrev S_ : Shape := ⟨0, ![]⟩
abbrev S4x2048x104 : Shape := ⟨3, ![4, 2048, 104]⟩
abbrev S4x2048x128 : Shape := ⟨3, ![4, 2048, 128]⟩
abbrev S8192x128 : Shape := ⟨2, ![8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2x2048x18968, .f32⟩
  | .hbm, ⟨2, _⟩ => ⟨S4x2048x2048, .f32⟩
  | .hbm, ⟨3, _⟩ => ⟨S1x2048x18968, .f32⟩
  | .hbm, ⟨4, _⟩ => ⟨S2048x18968, .f32⟩
  | .hbm, ⟨5, _⟩ => ⟨S4x2048x18968, .f32⟩
  | .hbm, ⟨6, _⟩ => ⟨S4x2048x8, .f32⟩
  | .hbm, ⟨7, _⟩ => ⟨S4x2048x16, .f32⟩
  | .hbm, ⟨8, _⟩ => ⟨S_, .f32⟩
  | .hbm, ⟨9, _⟩ => ⟨S4x2048x104, .f32⟩
  | .hbm, ⟨10, _⟩ => ⟨S4x2048x128, .f32⟩
  | .hbm, ⟨11, _⟩ => ⟨S8192x128, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S8192x4608 : Shape := ⟨2, ![8192, 4608]⟩
abbrev S2x1024 : Shape := ⟨2, ![2, 1024]⟩
abbrev S2x8x128x128 : Shape := ⟨4, ![2, 8, 128, 128]⟩
abbrev S2x8x128 : Shape := ⟨3, ![2, 8, 128]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1024 : Shape := ⟨1, ![1024]⟩
abbrev S8192x1024 : Shape := ⟨2, ![8192, 1024]⟩
abbrev S512x2048 : Shape := ⟨2, ![512, 2048]⟩
abbrev S1x8x128x128 : Shape := ⟨4, ![1, 8, 128, 128]⟩
abbrev S512x1024 : Shape := ⟨2, ![512, 1024]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 13
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S2x1024, .f32⟩
  | .hbm, ⟨2, _⟩ => ⟨S2x8x128x128, .f32⟩
  | .hbm, ⟨3, _⟩ => ⟨S2x8x128, .f32⟩
  | .hbm, ⟨4, _⟩ => ⟨S1x8x128, .f32⟩
  | .hbm, ⟨5, _⟩ => ⟨S8x128, .f32⟩
  | .hbm, ⟨6, _⟩ => ⟨S128x8, .f32⟩
  | .hbm, ⟨7, _⟩ => ⟨S128x8x128, .f32⟩
  | .hbm, ⟨8, _⟩ => ⟨S128x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1x1024, .f32⟩
  | .local _ .vmem, ⟨3, _⟩ => ⟨S1x8x128x128, .f32⟩
  | .local _ .vmem, ⟨4, _⟩ => ⟨S128x1024, .f32⟩
  | .local _ .vmem, ⟨5, _⟩ => ⟨S512x1024, .bf16⟩
  | .local _ .vmem, ⟨6, _⟩ => ⟨S512x1024, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x4608 : Shape := ⟨2, ![8192, 4608]⟩
abbrev S2x1024 : Shape := ⟨2, ![2, 1024]⟩
abbrev S2x8x128x128 : Shape := ⟨4, ![2, 8, 128, 128]⟩
abbrev S2x8x128 : Shape := ⟨3, ![2, 8, 128]⟩
abbrev S8192x2048 : Shape := ⟨2, ![8192, 2048]⟩
abbrev S4x2048x2048 : Shape := ⟨3, ![4, 2048, 2048]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S1x1x1024 : Shape := ⟨3, ![1, 1, 1024]⟩
abbrev S4x16x128x8x128 : Shape := ⟨5, ![4, 16, 128, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S8192x1024 : Shape := ⟨2, ![8192, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S2x1024, .f32⟩
  | .hbm, ⟨2, _⟩ => ⟨S2x8x128x128, .f32⟩
  | .hbm, ⟨3, _⟩ => ⟨S2x8x128, .f32⟩
  | .hbm, ⟨4, _⟩ => ⟨S8192x2048, .bf16⟩
  | .hbm, ⟨5, _⟩ => ⟨S8192x2048, .f32⟩
  | .hbm, ⟨6, _⟩ => ⟨S4x2048x2048, .f32⟩
  | .hbm, ⟨7, _⟩ => ⟨S1x1024, .f32⟩
  | .hbm, ⟨8, _⟩ => ⟨S1024, .f32⟩
  | .hbm, ⟨9, _⟩ => ⟨S1x8x128x128, .f32⟩
  | .hbm, ⟨10, _⟩ => ⟨S8x128x128, .f32⟩
  | .hbm, ⟨11, _⟩ => ⟨S1x8x128, .f32⟩
  | .hbm, ⟨12, _⟩ => ⟨S8x128, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x1024, .f32⟩
  | .hbm, ⟨54, _⟩ => ⟨S4x2048x1024, .f32⟩
  | .hbm, ⟨55, _⟩ => ⟨S1x1x1024, .f32⟩
  | .hbm, ⟨56, _⟩ => ⟨S4x2048x1024, .f32⟩
  | .hbm, ⟨57, _⟩ => ⟨S4x2048x1024, .f32⟩
  | .hbm, ⟨58, _⟩ => ⟨S4x16x128x8x128, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S8x128x128, .f32⟩
  | .hbm, ⟨73, _⟩ => ⟨S8x128x128, .i1⟩
  | .hbm, ⟨74, _⟩ => ⟨S8x128x128, .f32⟩
  | .hbm, ⟨75, _⟩ => ⟨S8x4x16x128x128, .f32⟩
  | .hbm, ⟨76, _⟩ => ⟨S4x16x128x8x128, .f32⟩
  | .hbm, ⟨77, _⟩ => ⟨S128x8, .f32⟩
  | .hbm, ⟨78, _⟩ => ⟨S1x1x128x8x1, .f32⟩
  | .hbm, ⟨79, _⟩ => ⟨S4x16x128x8x128, .f32⟩
  | .hbm, ⟨80, _⟩ => ⟨S4x16x128x8x128, .f32⟩
  | .hbm, ⟨81, _⟩ => ⟨S4x2048x1024, .f32⟩
  | .hbm, ⟨82, _⟩ => ⟨S4x2048x1024, .f32⟩
  | .hbm, ⟨83, _⟩ => ⟨S8192x1024, .f32⟩
  | .hbm, ⟨84, _⟩ => ⟨S8192x1024, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_v46 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.Sigmoid.lean ====
/- The sigmoid read as a hyperbolic tangent, on the extended reals: one identity, at every value. -/
module

public import Idealize.ShloMosaic.PureOps.Ideal
public import Idealize.ShloMosaic.PureOps.Ideal.Laws
public import Mathlib.Analysis.SpecialFunctions.Trigonometric.DerivHyp

@[expose] public section

noncomputable section

namespace Cert.Layer

open Idealize.ShloMosaic

/-- The literal one. -/
theorem lit_one : Ideal.ofBits .f32 0x3F800000#32 = 1 := by
  rw [show (1 : EReal) = ((1 : ℝ) : EReal) from rfl]
  simp [Ideal.ofBits, Ideal.ieee, -EReal.coe_mul]; norm_num

/-- The literal one half. -/
theorem lit_half : Ideal.ofBits .f32 0x3F000000#32 = ((1 / 2 : ℝ) : EReal) := by
  simp [Ideal.ofBits, Ideal.ieee, -EReal.coe_mul]; norm_num

/-- On the reals. -/
theorem real_sigmoid (x : ℝ) : 1 / 2 * Real.tanh (1 / 2 * x) + 1 / 2 = 1 / (1 + Real.exp (-x)) := by
  have h1 : Real.exp (-x) = Real.exp (-(1 / 2 * x)) * Real.exp (-(1 / 2 * x)) := by
    rw [← Real.exp_add]; ring_nf
  have h2 : Real.exp (1 / 2 * x) * Real.exp (-(1 / 2 * x)) = 1 := by
    rw [← Real.exp_add]; simp
  have ha := Real.exp_pos (1 / 2 * x)
  have hb := Real.exp_pos (-(1 / 2 * x))
  rw [Real.tanh_eq_sinh_div_cosh, Real.sinh_eq, Real.cosh_eq, h1]
  generalize Real.exp (1 / 2 * x) = a at *
  generalize Real.exp (-(1 / 2 * x)) = b at *
  have e : a = 1 / b := by field_simp; exact h2
  subst e
  field_simp
  ring

/-- HALF THE TANGENT OF THE HALF, PLUS A HALF, IS THE SIGMOID, at the infinities too. -/
theorem sigmoid_eq (x : EReal) :
    ((1 / 2 : ℝ) : EReal) * Ideal.tanh (((1 / 2 : ℝ) : EReal) * x) + ((1 / 2 : ℝ) : EReal)
      = Ideal.div 1 (1 + Ideal.exp (-x)) := by
  have hp : (0 : ℝ) < 1 / 2 := by norm_num
  induction x with
  | bot =>
    have e : Ideal.div 1 ⊤ = 0 := by
      unfold Ideal.div
      rw [if_neg (by decide), EReal.inv_top, mul_zero]
    rw [EReal.coe_mul_bot_of_pos hp, EReal.neg_bot, show Ideal.tanh ⊥ = ((-1 : ℝ) : EReal) from rfl,
      show Ideal.exp ⊤ = ⊤ from rfl, show (1 : EReal) + ⊤ = ⊤ from rfl, e, ← EReal.coe_mul, ← EReal.coe_add]
    norm_num
  | top =>
    rw [EReal.coe_mul_top_of_pos hp, EReal.neg_top, show Ideal.tanh ⊤ = ((1 : ℝ) : EReal) from rfl,
      show Ideal.exp ⊥ = 0 from rfl, add_zero, show (1 : EReal) = ((1 : ℝ) : EReal) from rfl,
      Ideal.div_coe one_ne_zero, ← EReal.coe_mul, ← EReal.coe_mul, ← EReal.coe_add]
    norm_num
  | coe r =>
    have hpos := Real.exp_pos (-r)
    rw [← EReal.coe_mul, ← EReal.coe_neg]
    show ((1 / 2 : ℝ) : EReal) * ((Real.tanh (1 / 2 * r) : ℝ) : EReal) + ((1 / 2 : ℝ) : EReal)
      = Ideal.div 1 (((1 : ℝ) : EReal) + ((Real.exp (-r) : ℝ) : EReal))
    rw [← EReal.coe_add 1, Ideal.div_coe (by positivity), ← EReal.coe_mul, ← EReal.coe_add, real_sigmoid, one_mul]

/-- HALF THE GATED UNIT: half of the gate's sigmoid-weighted value times the other value. -/
def hswi (g u : EReal) : EReal := ((1 / 2 : ℝ) : EReal) * (g * Ideal.div 1 (1 + Ideal.exp (-g)) * u)

theorem hswi_eq (g u : EReal) : Ideal.ofBits .f32 0x3F000000#32 * (g * (Ideal.ofBits .f32 0x3F000000#32
    * Ideal.tanh (Ideal.ofBits .f32 0x3F000000#32 * g) + Ideal.ofBits .f32 0x3F000000#32)) * u = hswi g u := by
  rw [lit_half, sigmoid_eq, hswi, mul_assoc]

/-- A half taken into a sum of extended reals, of any signs. -/
theorem half_sum {n : ℕ} (f : Fin n → EReal) : ((1 / 2 : ℝ) : EReal) * ∑ k, f k = ∑ k, ((1 / 2 : ℝ) : EReal) * f k := by
  induction n with
  | zero => simp
  | succ n ih =>
    rw [Fin.sum_univ_succ, Fin.sum_univ_succ, EReal.left_distrib_of_nonneg_of_ne_top (by positivity) (EReal.coe_ne_top _), ih]

/-- An entry of a NORMALISED ROW of width 2048: over the root of the row's mean square and the small constant, times the
    norm's own weight. -/
def nrm (P : Fin 2048 → EReal) (g : EReal) (q : Fin 2048) : EReal :=
  P q * Ideal.rsqrt (Ideal.div (∑ k, P k * P k) (Ideal.ofBits .f32 0x45000000#32) + Ideal.ofBits .f32 0x358637BD#32) * g

end Cert.Layer

end
-- ==== Proof.Norm.lean ====
/- The first norm, at the exact reals: after the run the output array is the reference's result. -/
module

public import proofs.«01_k».proof.Proof.Sigmoid
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel9Ideal.Norm

open Idealize.ShloMosaic Idealize.ShloMosaic.TcCoe Idealize.SL.Sem
open Idealize.ShloMosaic.Pipeline (Dat)
open Cert.Kernel9Ideal Cert.Kernel9Ideal.Gen
open scoped BigOperators

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The reference's result over the arguments. -/
abbrev REF (x : FVec Ideal S4x2048x2048 .f32) (g : FVec Ideal S2x2048 .f32) : FVec Ideal S8192x2048 .bf16 :=
  Cert.Reference9Ideal.Read.val_main_v16 (F := Ideal) x g

/-- The rows at an index, the row index split, and the norm's row, layer 0's. -/
theorem rows_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

theorem norm_at (c : Dev nD) (i : S1x2048.Idx) : V m c main_v3 i = m ((c : Thread nD τ).loc main_arg1) (ix2 0 (i 1)) := by
  entry_read
  idx_vars i
  pointwise

/-- The row of the whole array that row `r` of point `t`'s block is. -/
def rowAt (t : Fin cfg0.N) (r : Fin 512) : Fin 8192 := ⟨t.val * 512 + r.val, by
  have : t.val < 16 := t.isLt
  omega⟩

theorem x_at (c : Dev nD) (t : Fin cfg0.N) (r : Fin 512) (k : Fin 2048) : iblk m c 0 t (ix2 r k)
    = m ((c : Thread nD τ).loc main_arg0) (ix3 ⟨(rowAt t r).val / 2048, by omega⟩ ⟨(rowAt t r).val % 2048, by omega⟩ k) := by
  refine (rows_at m c _).trans ?_
  blk_ext [rowAt, idx t]

/-- The norm at an index, the kernel's and the reference's. -/
theorem pay1_at (x g) (r : Fin 512) (q : Fin 2048) : k0_pay1 (F := Ideal) x g (ix2 r q)
    = Cert.Layer.nrm (fun k => x (ix2 r k)) (g (ix2 0 q)) q := by
  pointwise [k0_pay1]
  rfl

theorem ref_at (x : FVec Ideal S4x2048x2048 .f32) (g : FVec Ideal S2x2048 .f32) (i : Fin 8192) (q : Fin 2048) :
    REF x g (ix2 i q) = Cert.Layer.nrm (fun k => x (ix3 ⟨i.val / 2048, by omega⟩ ⟨i.val % 2048, by omega⟩ k)) (g (ix2 0 q)) q := by
  pointwise [REF, Cert.Reference9Ideal.Read.val_main_v16, Cert.Reference9Ideal.Read.val_main_v15, Cert.Reference9Ideal.Read.val_main_v14, Cert.Reference9Ideal.Read.val_main_v13, Cert.Reference9Ideal.Read.val_main_v12, Cert.Reference9Ideal.Read.val_main_v11, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1]
  rfl

/-- Where a block element of the result sits. -/
theorem place (t : Fin cfg0.N) (r : Fin 512) (q : Fin 2048) : ((cfg0.win 2).blk t).view.emb (ix2 r q) = ix2 (rowAt t r) q := by
  funext a
  refine Fin.ext (((cfg0.win 2).rect_emb_val_off t (ix2 r q) a).trans ?_)
  match a with
  | ⟨0, _⟩ =>
    show win0_2.index t 0 * 512 + r.val = t.val * 512 + r.val
    rw [(idx t).2.2]; rfl
  | ⟨1, _⟩ =>
    show win0_2.index t 1 * 2048 + q.val = q.val
    rw [(idx t).2.2]; simp

/-- What a point stores is the reference at the place its block element sits at. -/
theorem point (c : Dev nD) (t : Fin cfg0.N) (y : S512x2048.Idx) : k0_pay1 (iblk m c 0 t) (iblk m c 1 t) y
    = REF (m ((c : Thread nD τ).loc main_arg0)) (m ((c : Thread nD τ).loc main_arg1)) (((cfg0.win 2).blk t).view.emb y) := by
  idx_vars y
  rw [place]
  refine (pay1_at _ _ _ _).trans (Eq.trans ?_ (ref_at _ _ _ _).symm)
  simp only [x_at m c t]
  refine congrArg (fun g => Cert.Layer.nrm _ g _) ((norm_at m c _).trans ?_)
  blk_ext [idx t]

/-- The output array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Kernel9Ideal.Norm

end
-- ==== Proof.Small.lean ====
/- The projection's few columns that stay f32, at the exact reals: after the run the output array is the reference's result. -/
module

public import proofs.«01_k».proof.Proof.Sigmoid
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel10Ideal.Small

open Idealize.ShloMosaic Idealize.ShloMosaic.TcCoe Idealize.SL.Sem
open Idealize.ShloMosaic.Pipeline (Dat)
open Cert.Kernel10Ideal Cert.Kernel10Ideal.Gen
open scoped BigOperators

variable (m : (ℓ : Loc nD τ sig) → Buf (Elt Ideal) ℓ)

/-- The windows' block indices. -/
theorem idx : ∀ t : Fin cfg0.N, win0_0.index t = ![t.val, 0] ∧ win0_1.index t = ![0, 1346, 0]
    ∧ win0_2.index t = ![0, 288, 0] ∧ win0_3.index t = ![t.val, 0] :=
  (by decide +kernel : ∀ t : Fin grid0.N, _)

/-- The reference's result over the arguments. -/
abbrev REF (h : FVec Ideal S4x2048x2048 .bf16) (w : FVec Ideal S2x2048x18968 .f32) : FVec Ideal S8192x128 .f32 :=
  Cert.Reference10Ideal.Read.val_main_v8 (F := Ideal) h w

/-- The activations and the weights' columns at an index. -/
theorem rows_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

theorem cols_at (c : Dev nD) (i : S2x18968x2048.Idx) : V m c main_v1 i
    = m ((c : Thread nD τ).loc main_arg1) (ix3 (i 0) (i 2) (i 1)) := by
  entry_read
  idx_vars i
  pointwise

theorem wf_at (c : Dev nD) (t : Fin cfg0.N) (r : Fin 8) (k : Fin 2048) : iblk m c 1 t (ix3 0 r k)
    = m ((c : Thread nD τ).loc main_arg1) (ix3 0 k ⟨10768 + r.val, by omega⟩) := by
  refine (cols_at m c _).trans ?_
  blk_ext [idx t]

theorem wd_at (c : Dev nD) (t : Fin cfg0.N) (r : Fin 16) (k : Fin 2048) : X0_2 m c t (ix3 0 r k)
    = m ((c : Thread nD τ).loc main_arg1) (ix3 0 k ⟨4608 + r.val, by omega⟩) := by
  unfold X0_2 Pipeline.Window.fill
  rw [dif_pos (moved0_2 t _)]
  refine (cols_at m c _).trans ?_
  blk_ext [idx t]

/-- The row of the whole array that row `r` of point `t`'s block is. -/
def rowAt (t : Fin cfg0.N) (r : Fin 2048) : Fin 8192 := ⟨t.val * 2048 + r.val, by
  have : t.val < 4 := t.isLt
  omega⟩

theorem h_at (c : Dev nD) (t : Fin cfg0.N) (r k : Fin 2048) : iblk m c 0 t (ix2 r k)
    = m ((c : Thread nD τ).loc main_arg0) (ix3 ⟨(rowAt t r).val / 2048, by omega⟩ ⟨(rowAt t r).val % 2048, by omega⟩ k) := by
  refine (rows_at m c _).trans ?_
  blk_ext [rowAt, idx t]

/-- A column: one of the first eight, one of the next sixteen, or zero. -/
def col (f : Fin 2048 → EReal) (wf : Fin 8 → Fin 2048 → EReal) (wd : Fin 16 → Fin 2048 → EReal) (q : Fin 128) : EReal :=
  if h : q.val < 8 then ∑ k, f k * wf ⟨q.val, h⟩ k
  else if h' : q.val - 8 < 16 then ∑ k, f k * wd ⟨q.val - 8, h'⟩ k else 0

theorem pay1_at (wf wd h) (r : Fin 2048) (q : Fin 128) : k0_pay1 (F := Ideal) wf wd h (ix2 r q)
    = col (fun k => h (ix2 r k)) (fun a k => wf (ix3 0 a k)) (fun a k => wd (ix3 0 a k)) q := by
  unfold col
  pointwise [k0_pay1]
  split
  · rfl
  · split
    · rfl
    · simp

theorem ref_at (h : FVec Ideal S4x2048x2048 .bf16) (w : FVec Ideal S2x2048x18968 .f32) (i : Fin 8192) (q : Fin 128) :
    REF h w (ix2 i q) = col (fun k => h (ix3 ⟨i.val / 2048, by omega⟩ ⟨i.val % 2048, by omega⟩ k))
      (fun a k => w (ix3 0 k ⟨10768 + a.val, by omega⟩)) (fun a k => w (ix3 0 k ⟨4608 + a.val, by omega⟩)) q := by
  unfold col
  pointwise [REF, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0, Cert.Reference10Ideal.Read.val_main_cst]

/-- Where a block element of the result sits. -/
theorem place (t : Fin cfg0.N) (r : Fin 2048) (q : Fin 128) : ((cfg0.win 3).blk t).view.emb (ix2 r q) = ix2 (rowAt t r) q := by
  funext a
  refine Fin.ext (((cfg0.win 3).rect_emb_val_off t (ix2 r q) a).trans ?_)
  match a with
  | ⟨0, _⟩ =>
    show win0_3.index t 0 * 2048 + r.val = t.val * 2048 + r.val
    rw [(idx t).2.2.2]; rfl
  | ⟨1, _⟩ =>
    show win0_3.index t 1 * 128 + q.val = q.val
    rw [(idx t).2.2.2]; simp

/-- What a point stores is the reference at the place its block element sits at. -/
theorem point (c : Dev nD) (t : Fin cfg0.N) (y : S2048x128.Idx) : k0_pay1 (iblk m c 1 t) (X0_2 m c t) (iblk m c 0 t) y
    = REF (m ((c : Thread nD τ).loc main_arg0)) (m ((c : Thread nD τ).loc main_arg1)) (((cfg0.win 3).blk t).view.emb y) := by
  idx_vars y
  rw [place]
  refine (pay1_at _ _ _ _ _).trans (Eq.trans ?_ (ref_at _ _ _ _).symm)
  simp only [h_at m c t, wf_at m c t, wd_at m c t]

/-- The output array after the run. -/
theorem final (c : Dev nD) : (dats m 0 c).arrAt 3 cfg0.N
    = REF (m ((c : Thread nD τ).loc main_arg0)) (m ((c : Thread nD τ).loc main_arg1)) := by
  refine (dats m 0 c).arrAt_eq_of_covers 3 _ (by decide +kernel) fun t hf y => ?_
  blk_simp
  rw [after0_3]
  unfold outsAt0 out0_A_3
  frame_out
  exact point m c t y

end Cert.Kernel10Ideal.Small

end
-- ==== Proof.Sgu.lean ====
/- The spatial gating, at the exact reals: after the run the output array is the reference's result. -/
module

public import proofs.«01_k».proof.Proof.Sigmoid
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Claim
public import Idealize.ShloMosaic.Lib.WholeRead

@[expose] public section

set_option maxRecDepth 16384

noncomputable section

namespace Cert.Kernel11Ideal.Sgu

open Idealize.ShloMosaic Idealize.ShloMosaic.TcCoe Idealize.SL.Sem
open Idealize.ShloMosaic.Pipeline (Dat)
open Idealize.ShloMosaic.WordCmp
open Cert.Kernel11Ideal Cert.Kernel11Ideal.Gen
open scoped BigOperators

variable (m : (ℓ : Loc nD τ sig) → Buf (Elt Ideal) ℓ)

/-! ## The numbers -/

/-- The smooth rectifier, by the hyperbolic tangent of a cubic. -/
def gl (x : EReal) : EReal :=
  x * (Ideal.ofBits .f32 0x3F000000#32 * (1
    + Ideal.tanh (Ideal.ofBits .f32 0x3F4C422A#32 * (x + Ideal.ofBits .f32 0x3D372713#32 * (x * (x * x))))))

/-- The mean of a row of width 1024. -/
def mean (P : Fin 1024 → EReal) : EReal := Ideal.div (∑ k, P k) (Ideal.ofBits .f32 0x44800000#32)

/-- An entry of a row less its mean, over the root of the variance and the small constant, times the norm's weight. -/
def cen (P : Fin 1024 → EReal) (g : EReal) (q : Fin 1024) : EReal :=
  (P q - mean P) * Ideal.rsqrt (mean (fun k => (P k - mean P) * (P k - mean P)) + Ideal.ofBits .f32 0x358637BD#32) * g

/-- One mixed entry: the row's first half times the causal sum of the chunk's normalised second halves and the bias. -/
def mixed (u : EReal) (r : Fin 128) (w v : Fin 128 → EReal) (b : EReal) : EReal :=
  u * (∑ s : Fin 128, (if s.val ≤ r.val then w s else 0) * v s + b)

/-! ## What the body computes -/

/-- A group's piece, from the first halves, the normalised second halves, the group's weights and its bias. -/
def piece (off : Fin 2 → ℕ) (h : S128x1024.Slices off S128x128) (u v : FVec Ideal S128x1024 .f32)
    (w : Vec Ideal S1x1x128x128 .f32) (b : Vec Ideal S128x128 .f32) : FVec Ideal S128x128 .bf16 :=
  truncf .bf16 (mulf (extractStridedSlice S128x128 off u h) (addf (matmul dot_S128x128_S128x128_S128x128_1_0_0_1_n_n none
    (truncf .bf16 (select k0_pay2 (shapeCast S128x128 w shapeCasts_S1x1x128x128_S128x128)
      (broadcast S128x128 (Scalar.ofBits (F := Ideal) .f32 0x00000000#32))) bitsLt_bf16_f32)
    (truncf .bf16 (extractStridedSlice S128x128 off v h) bitsLt_bf16_f32) (constant S128x128 .f32 0x00000000#32))
    (shapeCast S128x128 b shapeCasts_S128x128_S128x128))) bitsLt_bf16_f32

theorem pay2_at (r s : Fin 128) : k0_pay2 (ix2 r s) = BitVec.ofBool (decide (s.val ≤ r.val)) := by
  pointwise [k0_pay2]
  exact cmpi_sle_ofNat (by omega) (by omega)

theorem pay4_at (x : Vec Ideal S128x2048 .bf16) (r : Fin 128) (q : Fin 1024) :
    k0_pay4 (F := Ideal) x (ix2 r q) = gl (x (ix2 r ⟨q.val, by omega⟩)) := by
  pointwise [k0_pay4, k0_pay3]
  rfl

theorem pay5_at (x : Vec Ideal S128x2048 .bf16) (g : Vec Ideal S1x1024 .f32) (r : Fin 128) (q : Fin 1024) :
    k0_pay5 (F := Ideal) x g (ix2 r q) = cen (fun k => gl (x (ix2 r ⟨1024 + k.val, by omega⟩))) (g (ix2 0 q)) q := by
  pointwise [k0_pay5, k0_pay3]
  rfl

theorem piece_at (n : Fin 8) (h) (u v w b) (r q : Fin 128) : piece ![0, 128 * n.val] h u v w b (ix2 r q)
    = mixed (u (ix2 r ⟨128 * n.val + q.val, by omega⟩)) r (fun s => w (ix4 0 0 r s)) (fun s => v (ix2 s ⟨128 * n.val + q.val, by omega⟩)) (b (ix2 r q)) := by
  unfold mixed
  pointwise [piece]
  simp only [pay2_at, select_ofBool, decide_eq_true_eq, ite_mul, zero_mul]

/-! ## The loads and the stores -/

theorem ld2 {n c : ℕ} {e : EltTy} {mr : Memref sig .tc .vmem ⟨2, ![n, c]⟩ e} (hm : mr.IsWhole) (x : Vec Ideal ⟨2, ![n, c]⟩ e)
    {n' c' : ℕ} (o p : ℕ) (inb) (r : Fin n') (d : Fin c') (hr : o + r.val < n) (hd : p + d.val < c) :
    View.readAt (Elt Ideal) mr.view (Rect.unit (s := ⟨2, ![n, c]⟩) ![o, p] ![n', c'] inb).toLoadRect (hm.unread x) (ix2 r d)
      = x (ix2 ⟨o + r.val, hr⟩ ⟨p + d.val, hd⟩) := by
  refine (hm.readAt_unread x _ _).trans (congrArg x (funext fun a => Fin.ext ?_))
  match a with
  | ⟨0, _⟩ => exact Rect.idx_unit_val ..
  | ⟨1, _⟩ => exact Rect.idx_unit_val ..

theorem ld4 {mr : Memref sig .tc .vmem S1x8x128x128 .f32} (hm : mr.IsWhole) (x : Vec Ideal S1x8x128x128 .f32) (n : Fin 8) (inb) (r s : Fin 128) :
    View.readAt (Elt Ideal) mr.view (Rect.unit (s := S1x8x128x128) ![0, n.val, 0, 0] ![1, 1, 128, 128] inb).toLoadRect (hm.unread x) (ix4 0 0 r s)
      = x (ix4 0 n r s) := by
  refine (hm.readAt_unread x _ _).trans (congrArg x (funext fun a => Fin.ext ?_))
  match a with
  | ⟨0, _⟩ => exact Rect.idx_unit_val ..
  | ⟨1, _⟩ => exact Rect.idx_unit_val ..
  | ⟨2, _⟩ => exact (Rect.idx_unit_val ..).trans (Nat.zero_add _)
  | ⟨3, _⟩ => exact (Rect.idx_unit_val ..).trans (Nat.zero_add _)

section run

variable (x0 : Vec Ideal S512x2048 .bf16) (x1 : Vec Ideal S1x1024 .f32) (x2 : Vec Ideal S1x8x128x128 .f32) (x3 : Vec Ideal S128x1024 .f32)

/-- What the block holds at row `r` of chunk `ci`, column `q` of group `gi`. -/
def gat (ci : Fin 4) (gi : Fin 8) (r q : Fin 128) : EReal :=
  mixed (gl (x0 (ix2 ⟨128 * ci.val + r.val, by omega⟩ ⟨128 * gi.val + q.val, by omega⟩))) r (fun s => x2 (ix4 0 gi r s))
    (fun s => cen (fun k => gl (x0 (ix2 ⟨128 * ci.val + s.val, by omega⟩ ⟨1024 + k.val, by omega⟩)))
      (x1 (ix2 0 ⟨128 * gi.val + q.val, by omega⟩)) ⟨128 * gi.val + q.val, by omega⟩)
    (x3 (ix2 r ⟨128 * gi.val + q.val, by omega⟩))

/-- What the block holds at an index. -/
def gated (y : S512x1024.Idx) : Elt Ideal .bf16 :=
  gat x0 x1 x2 x3 ⟨y 0 / 128, by have : (y 0).val < 512 := (y 0).isLt; omega⟩ ⟨y 1 / 128, by have : (y 1).val < 1024 := (y 1).isLt; omega⟩
    ⟨y 0 % 128, by omega⟩ ⟨y 1 % 128, by omega⟩

variable {arg1 : Memref sig .tc .vmem S512x2048 .bf16} (harg1 : arg1.IsWhole) {arg2 : Memref sig .tc .vmem S1x1024 .f32} (harg2 : arg2.IsWhole)
  {arg3 : Memref sig .tc .vmem S1x8x128x128 .f32} (harg3 : arg3.IsWhole) {arg4 : Memref sig .tc .vmem S128x1024 .f32} (harg4 : arg4.IsWhole)

/-- One store's piece is the block's value where it lands. -/
theorem at_eq (ci : Fin 4) (gi : Fin 8) (o : Fin 2 → ℕ) (ho : o = ![0, 128 * gi.val]) (h)
    (o1 : Fin 2 → ℕ) (h1 : o1 = ![128 * ci.val, 0]) (inb1) (o2 : Fin 2 → ℕ) (h2 : o2 = ![0, 0]) (inb2)
    (o3 : Fin 4 → ℕ) (h3 : o3 = ![0, gi.val, 0, 0]) (inb3) (o4 : Fin 2 → ℕ) (h4 : o4 = ![0, 128 * gi.val]) (inb4)
    (o5 : Fin 2 → ℕ) (h5 : o5 = ![128 * ci.val, 128 * gi.val]) (inb5) (y : S128x128.Idx) :
    piece o h
      (k0_pay4 (View.readAt (Elt Ideal) arg1.view (Rect.unit (s := S512x2048) o1 ![128, 2048] inb1).toLoadRect (harg1.unread x0)))
      (k0_pay5 (View.readAt (Elt Ideal) arg1.view (Rect.unit (s := S512x2048) o1 ![128, 2048] inb1).toLoadRect (harg1.unread x0))
        (View.readAt (Elt Ideal) arg2.view (Rect.unit (s := S1x1024) o2 ![1, 1024] inb2).toLoadRect (harg2.unread x1)))
      (View.readAt (Elt Ideal) arg3.view (Rect.unit (s := S1x8x128x128) o3 ![1, 1, 128, 128] inb3).toLoadRect (harg3.unread x2))
      (View.readAt (Elt Ideal) arg4.view (Rect.unit (s := S128x1024) o4 ![128, 128] inb4).toLoadRect (harg4.unread x3)) y
    = gated x0 x1 x2 x3 ((Rect.unit (s := S512x1024) o5 ![128, 128] inb5).emb y) := by
  subst ho h1 h2 h3 h4 h5
  obtain ⟨r, q, rfl⟩ : ∃ r q : Fin 128, y = ix2 r q := ⟨y 0, y 1, (ix2_eta y).symm⟩
  have e : (Rect.unit (s := S512x1024) ![128 * ci.val, 128 * gi.val] ![128, 128] inb5).emb (ix2 r q)
      = ix2 ⟨128 * ci.val + r.val, by omega⟩ ⟨128 * gi.val + q.val, by omega⟩ := by
    funext a
    refine Fin.ext ?_
    match a with
    | ⟨0, _⟩ => exact Rect.idx_unit_val ..
    | ⟨1, _⟩ => exact Rect.idx_unit_val ..
  have eg : gated x0 x1 x2 x3 (ix2 ⟨128 * ci.val + r.val, by omega⟩ ⟨128 * gi.val + q.val, by omega⟩) = gat x0 x1 x2 x3 ci gi r q := by
    unfold gated
    congr 1 <;> refine Fin.ext ?_ <;> simp [ix2] <;> omega
  rw [e, eg, piece_at, gat]
  simp only [pay4_at, pay5_at]
  have hx (s : Fin 128) (k : Fin 2048) : View.readAt (Elt Ideal) arg1.view
      (Rect.unit (s := S512x2048) ![128 * ci.val, 0] ![128, 2048] inb1).toLoadRect (harg1.unread x0) (ix2 s k)
      = x0 (ix2 ⟨128 * ci.val + s.val, by omega⟩ k) :=
    (ld2 harg1 x0 _ _ _ _ _ (by omega) (by omega)).trans (congrArg (fun b => x0 (ix2 _ b)) (Fin.ext (Nat.zero_add _)))
  have hg (k : Fin 1024) : View.readAt (Elt Ideal) arg2.view
      (Rect.unit (s := S1x1024) ![0, 0] ![1, 1024] inb2).toLoadRect (harg2.unread x1) (ix2 0 k) = x1 (ix2 0 k) :=
    (ld2 harg2 x1 _ _ _ _ _ (by omega) (by omega)).trans (congrArg (fun b => x1 (ix2 _ b)) (Fin.ext (Nat.zero_add _)))
  rw [ld2 harg4 x3 _ _ _ _ _ (by omega) (by omega)]
  simp only [ld4 harg3 x2, hx, hg, Nat.zero_add]

/-- Every store's piece. -/
theorem pieces (c : Dev nD) (i : grid0.Coords) (arg5 : Memref sig .tc .vmem S512x1024 .bf16) (harg5 : arg5.IsWhole) :
    ∀ p ∈ (kernelRun0_A (F := Ideal) c i arg1 harg1 arg2 harg2 arg3 harg3 arg4 harg4 arg5 harg5 x0 x1 x2 x3).1, ∀ y,
      p.2 y = gated x0 x1 x2 x3 (p.1.emb y) := by
  dsimp only [kernelRun0_A]
  refine List.forall_mem_cons.2 ⟨fun y => at_eq x0 x1 x2 x3 harg1 harg2 harg3 harg4 3 7 ![0, 896] rfl (by decide) ![384, 0] rfl (by decide)
    ![0, 0] rfl (by decide) ![0, 7, 0, 0] rfl (by decide) ![0, 896] rfl (by decide) ![384, 896] rfl (by decide) y, ?_⟩
  refine List.forall_mem_cons.2 ⟨fun y => at_eq x0 x1 x2 x3 harg1 harg2 harg3 harg4 3 6 ![0, 768] rfl (by decide) ![384, 0] rfl (by decide)
    ![0, 0] rfl (by decide) ![0, 6, 0, 0] rfl (by decide) ![0, 768] rfl (by decide) ![384, 768] rfl (by decide) y, ?_⟩
  refine List.forall_mem_cons.2 ⟨fun y => at_eq x0 x1 x2 x3 harg1 harg2 harg3 harg4 3 5 ![0, 640] rfl (by decide) ![384, 0] rfl (by decide)
    ![0, 0] rfl (by decide) ![0, 5, 0, 0] rfl (by decide) ![0, 640] rfl (by decide) ![384, 640] rfl (by decide) y, ?_⟩
  refine List.forall_mem_cons.2 ⟨fun y => at_eq x0 x1 x2 x3 harg1 harg2 harg3 harg4 3 4 ![0, 512] rfl (by decide) ![384, 0] rfl (by decide)
    ![0, 0] rfl (by decide) ![0, 4, 0, 0] rfl (by decide) ![0, 512] rfl (by decide) ![384, 512] rfl (by decide) y, ?_⟩
  refine List.forall_mem_cons.2 ⟨fun y => at_eq x0 x1 x2 x3 harg1 harg2 harg3 harg4 3 3 ![0, 384] rfl (by decide) ![384, 0] rfl (by decide)
    ![0, 0] rfl (by decide) ![0, 3, 0, 0] rfl (by decide) ![0, 384] rfl (by decide) ![384, 384] rfl (by decide) y, ?_⟩
  refine List.forall_mem_cons.2 ⟨fun y => at_eq x0 x1 x2 x3 harg1 harg2 harg3 harg4 3 2 ![0, 256] rfl (by decide) ![384, 0] rfl (by decide)
    ![0, 0] rfl (by decide) ![0, 2, 0, 0] rfl (by decide) ![0, 256] rfl (by decide) ![384, 256] rfl (by decide) y, ?_⟩
  refine List.forall_mem_cons.2 ⟨fun y => at_eq x0 x1 x2 x3 harg1 harg2 harg3 harg4 3 1 ![0, 128] rfl (by decide) ![384, 0] rfl (by decide)
    ![0, 0] rfl (by decide) ![0, 1, 0, 0] rfl (by decide) ![0, 128] rfl (by decide) ![384, 128] rfl (by decide) y, ?_⟩
  refine List.forall_mem_cons.2 ⟨fun y => at_eq x0 x1 x2 x3 harg1 harg2 harg3 harg4 3 0 ![0, 0] rfl (by decide) ![384, 0] rfl (by decide)
    ![0, 0] rfl (by decide) ![0, 0, 0, 0] rfl (by decide) ![0, 0] rfl (by decide) ![384, 0] rfl (by decide) y, ?_⟩
  refine List.forall_mem_cons.2 ⟨fun y => at_eq x0 x1 x2 x3 harg1 harg2 harg3 harg4 2 7 ![0, 896] rfl (by decide) ![256, 0] rfl (by decide)
    ![0, 0] rfl (by decide) ![0, 7, 0, 0] rfl (by decide) ![0, 896] rfl (by decide) ![256, 896] rfl (by decide) y, ?_⟩
  refine List.forall_mem_cons.2 ⟨fun y => at_eq x0 x1 x2 x3 harg1 harg2 harg3 harg4 2 6 ![0, 768] rfl (by decide) ![256, 0] rfl (by decide)
    ![0, 0] rfl (by decide) ![0, 6, 0, 0] rfl (by decide) ![0, 768] rfl (by decide) ![256, 768] rfl (by decide) y, ?_⟩
  refine List.forall_mem_cons.2 ⟨fun y => at_eq x0 x1 x2 x3 harg1 harg2 harg3 harg4 2 5 ![0, 640] rfl (by decide) ![256, 0] rfl (by decide)
    ![0, 0] rfl (by decide) ![0, 5, 0, 0] rfl (by decide) ![0, 640] rfl (by decide) ![256, 640] rfl (by decide) y, ?_⟩
  refine List.forall_mem_cons.2 ⟨fun y => at_eq x0 x1 x2 x3 harg1 harg2 harg3 harg4 2 4 ![0, 512] rfl (by decide) ![256, 0] rfl (by decide)
    ![0, 0] rfl (by decide) ![0, 4, 0, 0] rfl (by decide) ![0, 512] rfl (by decide) ![256, 512] rfl (by decide) y, ?_⟩
  refine List.forall_mem_cons.2 ⟨fun y => at_eq x0 x1 x2 x3 harg1 harg2 harg3 harg4 2 3 ![0, 384] rfl (by decide) ![256, 0] rfl (by decide)
    ![0, 0] rfl (by decide) ![0, 3, 0, 0] rfl (by decide) ![0, 384] rfl (by decide) ![256, 384] rfl (by decide) y, ?_⟩
  refine List.forall_mem_cons.2 ⟨fun y => at_eq x0 x1 x2 x3 harg1 harg2 harg3 harg4 2 2 ![0, 256] rfl (by decide) ![256, 0] rfl (by decide)
    ![0, 0] rfl (by decide) ![0, 2, 0, 0] rfl (by decide) ![0, 256] rfl (by decide) ![256, 256] rfl (by decide) y, ?_⟩
  refine List.forall_mem_cons.2 ⟨fun y => at_eq x0 x1 x2 x3 harg1 harg2 harg3 harg4 2 1 ![0, 128] rfl (by decide) ![256, 0] rfl (by decide)
    ![0, 0] rfl (by decide) ![0, 1, 0, 0] rfl (by decide) ![0, 128] rfl (by decide) ![256, 128] rfl (by decide) y, ?_⟩
  refine List.forall_mem_cons.2 ⟨fun y => at_eq x0 x1 x2 x3 harg1 harg2 harg3 harg4 2 0 ![0, 0] rfl (by decide) ![256, 0] rfl (by decide)
    ![0, 0] rfl (by decide) ![0, 0, 0, 0] rfl (by decide) ![0, 0] rfl (by decide) ![256, 0] rfl (by decide) y, ?_⟩
  refine List.forall_mem_cons.2 ⟨fun y => at_eq x0 x1 x2 x3 harg1 harg2 harg3 harg4 1 7 ![0, 896] rfl (by decide) ![128, 0] rfl (by decide)
    ![0, 0] rfl (by decide) ![0, 7, 0, 0] rfl (by decide) ![0, 896] rfl (by decide) ![128, 896] rfl (by decide) y, ?_⟩
  refine List.forall_mem_cons.2 ⟨fun y => at_eq x0 x1 x2 x3 harg1 harg2 harg3 harg4 1 6 ![0, 768] rfl (by decide) ![128, 0] rfl (by decide)
    ![0, 0] rfl (by decide) ![0, 6, 0, 0] rfl (by decide) ![0, 768] rfl (by decide) ![128, 768] rfl (by decide) y, ?_⟩
  refine List.forall_mem_cons.2 ⟨fun y => at_eq x0 x1 x2 x3 harg1 harg2 harg3 harg4 1 5 ![0, 640] rfl (by decide) ![128, 0] rfl (by decide)
    ![0, 0] rfl (by decide) ![0, 5, 0, 0] rfl (by decide) ![0, 640] rfl (by decide) ![128, 640] rfl (by decide) y, ?_⟩
  refine List.forall_mem_cons.2 ⟨fun y => at_eq x0 x1 x2 x3 harg1 harg2 harg3 harg4 1 4 ![0, 512] rfl (by decide) ![128, 0] rfl (by decide)
    ![0, 0] rfl (by decide) ![0, 4, 0, 0] rfl (by decide) ![0, 512] rfl (by decide) ![128, 512] rfl (by decide) y, ?_⟩
  refine List.forall_mem_cons.2 ⟨fun y => at_eq x0 x1 x2 x3 harg1 harg2 harg3 harg4 1 3 ![0, 384] rfl (by decide) ![128, 0] rfl (by decide)
    ![0, 0] rfl (by decide) ![0, 3, 0, 0] rfl (by decide) ![0, 384] rfl (by decide) ![128, 384] rfl (by decide) y, ?_⟩
  refine List.forall_mem_cons.2 ⟨fun y => at_eq x0 x1 x2 x3 harg1 harg2 harg3 harg4 1 2 ![0, 256] rfl (by decide) ![128, 0] rfl (by decide)
    ![0, 0] rfl (by decide) ![0, 2, 0, 0] rfl (by decide) ![0, 256] rfl (by decide) ![128, 256] rfl (by decide) y, ?_⟩
  refine List.forall_mem_cons.2 ⟨fun y => at_eq x0 x1 x2 x3 harg1 harg2 harg3 harg4 1 1 ![0, 128] rfl (by decide) ![128, 0] rfl (by decide)
    ![0, 0] rfl (by decide) ![0, 1, 0, 0] rfl (by decide) ![0, 128] rfl (by decide) ![128, 128] rfl (by decide) y, ?_⟩
  refine List.forall_mem_cons.2 ⟨fun y => at_eq x0 x1 x2 x3 harg1 harg2 harg3 harg4 1 0 ![0, 0] rfl (by decide) ![128, 0] rfl (by decide)
    ![0, 0] rfl (by decide) ![0, 0, 0, 0] rfl (by decide) ![0, 0] rfl (by decide) ![128, 0] rfl (by decide) y, ?_⟩
  refine List.forall_mem_cons.2 ⟨fun y => at_eq x0 x1 x2 x3 harg1 harg2 harg3 harg4 0 7 ![0, 896] rfl (by decide) ![0, 0] rfl (by decide)
    ![0, 0] rfl (by decide) ![0, 7, 0, 0] rfl (by decide) ![0, 896] rfl (by decide) ![0, 896] rfl (by decide) y, ?_⟩
  refine List.forall_mem_cons.2 ⟨fun y => at_eq x0 x1 x2 x3 harg1 harg2 harg3 harg4 0 6 ![0, 768] rfl (by decide) ![0, 0] rfl (by decide)
    ![0, 0] rfl (by decide) ![0, 6, 0, 0] rfl (by decide) ![0, 768] rfl (by decide) ![0, 768] rfl (by decide) y, ?_⟩
  refine List.forall_mem_cons.2 ⟨fun y => at_eq x0 x1 x2 x3 harg1 harg2 harg3 harg4 0 5 ![0, 640] rfl (by decide) ![0, 0] rfl (by decide)
    ![0, 0] rfl (by decide) ![0, 5, 0, 0] rfl (by decide) ![0, 640] rfl (by decide) ![0, 640] rfl (by decide) y, ?_⟩
  refine List.forall_mem_cons.2 ⟨fun y => at_eq x0 x1 x2 x3 harg1 harg2 harg3 harg4 0 4 ![0, 512] rfl (by decide) ![0, 0] rfl (by decide)
    ![0, 0] rfl (by decide) ![0, 4, 0, 0] rfl (by decide) ![0, 512] rfl (by decide) ![0, 512] rfl (by decide) y, ?_⟩
  refine List.forall_mem_cons.2 ⟨fun y => at_eq x0 x1 x2 x3 harg1 harg2 harg3 harg4 0 3 ![0, 384] rfl (by decide) ![0, 0] rfl (by decide)
    ![0, 0] rfl (by decide) ![0, 3, 0, 0] rfl (by decide) ![0, 384] rfl (by decide) ![0, 384] rfl (by decide) y, ?_⟩
  refine List.forall_mem_cons.2 ⟨fun y => at_eq x0 x1 x2 x3 harg1 harg2 harg3 harg4 0 2 ![0, 256] rfl (by decide) ![0, 0] rfl (by decide)
    ![0, 0] rfl (by decide) ![0, 2, 0, 0] rfl (by decide) ![0, 256] rfl (by decide) ![0, 256] rfl (by decide) y, ?_⟩
  refine List.forall_mem_cons.2 ⟨fun y => at_eq x0 x1 x2 x3 harg1 harg2 harg3 harg4 0 1 ![0, 128] rfl (by decide) ![0, 0] rfl (by decide)
    ![0, 0] rfl (by decide) ![0, 1, 0, 0] rfl (by decide) ![0, 128] rfl (by decide) ![0, 128] rfl (by decide) y, ?_⟩
  refine List.forall_mem_cons.2 ⟨fun y => at_eq x0 x1 x2 x3 harg1 harg2 harg3 harg4 0 0 ![0, 0] rfl (by decide) ![0, 0] rfl (by decide)
    ![0, 0] rfl (by decide) ![0, 0, 0, 0] rfl (by decide) ![0, 0] rfl (by decide) ![0, 0] rfl (by decide) y, ?_⟩
  exact fun p h => absurd h List.not_mem_nil

end run

/-- What the point leaves in the output's block. -/
theorem outs_at (c : Dev nD) (t : Fin cfg0.N) (y : S512x1024.Idx) :
    outsAt0 m c t y = gated (X0_0 m c t) (iblk m c 1 t) (iblk m c 2 t) (iblk m c 3 t) y := by
  unfold outsAt0 out0_A_4
  rw [View.read_writes_junk_eq_canon]
  exact View.canon_apply_of_pieces _ _ (pieces _ _ _ _ _ _ _ _ c _ _ _) y (cover0_A_4 c _ _ _ _ _ _ _ _ _ _ _ _ _ _ _ y)

/-! ## The windows -/

/-- The windows' block indices. -/
theorem idx : ∀ t : Fin cfg0.N, win0_0.index t = ![t.val, 0] ∧ win0_1.index t = ![0, 0]
    ∧ win0_2.index t = ![0, 0, 0, 0] ∧ win0_3.index t = ![0, 0] ∧ win0_4.index t = ![t.val, 0] :=
  (by decide +kernel : ∀ t : Fin grid0.N, _)

/-- The norm's row and the bias, layer 0's, the bias repeated over its group's lanes. -/
theorem norm_at (c : Dev nD) (i : S1x1024.Idx) : V m c main_v7 i = m ((c : Thread nD τ).loc main_arg1) (ix2 0 (i 1)) := by
  entry_read
  idx_vars i
  pointwise

theorem bias_at (c : Dev nD) (i : S128x1024.Idx) : V m c main_v4 i
    = m ((c : Thread nD τ).loc main_arg3) (ix3 0 ⟨i 1 / 128, by have : (i 1).val < 1024 := (i 1).isLt; omega⟩ (i 0)) := by
  entry_read
  idx_vars i
  pointwise

/-- The arguments the windows read as they are. -/
theorem p_raw (c : Dev nD) (i : S8192x4608.Idx) : V m c main_arg0 i = m ((c : Thread nD τ).loc main_arg0) i := by
  entry_read
  rfl

theorem w_raw (c : Dev nD) (i : S2x8x128x128.Idx) : V m c main_arg2 i = m ((c : Thread nD τ).loc main_arg2) i := by
  entry_read
  rfl

/-- The row of the whole array that row `r` of point `t`'s block is. -/
def rowAt (t : Fin cfg0.N) (r : Fin 512) : Fin 8192 := ⟨t.val * 512 + r.val, by
  have : t.val < 16 := t.isLt
  omega⟩

/-- The blocks at an index. -/
theorem p_at (c : Dev nD) (t : Fin cfg0.N) (r : Fin 512) (k : Fin 2048) : X0_0 m c t (ix2 r k)
    = m ((c : Thread nD τ).loc main_arg0) (ix2 (rowAt t r) ⟨k.val, by omega⟩) := by
  unfold X0_0 Pipeline.Window.fill
  rw [dif_pos (moved0_0 t _)]
  refine (p_raw m c _).trans ?_
  blk_ext [rowAt, idx t]

theorem w_at (c : Dev nD) (t : Fin cfg0.N) (g : Fin 8) (r s : Fin 128) : iblk m c 2 t (ix4 0 g r s)
    = m ((c : Thread nD τ).loc main_arg2) (ix4 0 g r s) := by
  refine (w_raw m c _).trans ?_
  blk_ext [idx t]

theorem g_at (c : Dev nD) (t : Fin cfg0.N) (q : Fin 1024) : iblk m c 1 t (ix2 0 q)
    = m ((c : Thread nD τ).loc main_arg1) (ix2 0 q) := by
  refine (norm_at m c _).trans ?_
  blk_ext [idx t]

theorem b_at (c : Dev nD) (t : Fin cfg0.N) (r : Fin 128) (q : Fin 1024) : iblk m c 3 t (ix2 r q)
    = m ((c : Thread nD τ).loc main_arg3) (ix3 0 ⟨q.val / 128, by omega⟩ r) := by
  refine (bias_at m c _).trans ?_
  blk_ext [idx t]

/-! ## The reference -/

section ref

variable (x0 : FVec Ideal S8192x4608 .bf16) (x1 : FVec Ideal S2x1024 .f32) (x2 : FVec Ideal S2x8x128x128 .f32) (x3 : FVec Ideal S2x8x128 .f32)

/-- The reference's result over the arguments. -/
abbrev REF : FVec Ideal S8192x1024 .bf16 := Cert.Reference11Ideal.Read.val_main_v60 (F := Ideal) x0 x1 x2 x3

/-- The reference's rectified rows, its normalised second halves and its causal weights. -/
theorem v21_at (a : Fin 4) (s k : Fin 2048) : Cert.Reference11Ideal.Read.val_main_v21 (F := Ideal) x0 (ix3 a s k)
    = gl (x0 (ix2 ⟨a.val * 2048 + s.val, by omega⟩ ⟨k.val, by omega⟩)) := by
  unfold gl
  pointwise [Cert.Reference11Ideal.Read.val_main_v21, Cert.Reference11Ideal.Read.val_main_v20, Cert.Reference11Ideal.Read.val_main_v19, Cert.Reference11Ideal.Read.val_main_v18, Cert.Reference11Ideal.Read.val_main_v17, Cert.Reference11Ideal.Read.val_main_v16, Cert.Reference11Ideal.Read.val_main_v15, Cert.Reference11Ideal.Read.val_main_v14, Cert.Reference11Ideal.Read.val_main_v13, Cert.Reference11Ideal.Read.val_main_v12, Cert.Reference11Ideal.Read.val_main_v11, Cert.Reference11Ideal.Read.val_main_v10, Cert.Reference11Ideal.Read.val_main_v9, Cert.Reference11Ideal.Read.val_main_v2, Cert.Reference11Ideal.Read.val_main_v1, Cert.Reference11Ideal.Read.val_main_v0, Cert.Reference11Ideal.Read.val_main_cst, Cert.Reference11Ideal.Read.val_main_cst_0, Cert.Reference11Ideal.Read.val_main_cst_1, Cert.Reference11Ideal.Read.val_main_cst_2]
  rw [mul_assoc (x0 _) (x0 _) (x0 _)]

theorem v44_at (a : Fin 4) (s : Fin 2048) (q : Fin 1024) : Cert.Reference11Ideal.Read.val_main_v44 (F := Ideal) x0 x1 (ix3 a s q)
    = cen (fun k => gl (x0 (ix2 ⟨a.val * 2048 + s.val, by omega⟩ ⟨1024 + k.val, by omega⟩))) (x1 (ix2 0 q)) q := by
  pointwise [Cert.Reference11Ideal.Read.val_main_v44, Cert.Reference11Ideal.Read.val_main_v43, Cert.Reference11Ideal.Read.val_main_v42, Cert.Reference11Ideal.Read.val_main_v41, Cert.Reference11Ideal.Read.val_main_v40, Cert.Reference11Ideal.Read.val_main_v39, Cert.Reference11Ideal.Read.val_main_v38, Cert.Reference11Ideal.Read.val_main_v37, Cert.Reference11Ideal.Read.val_main_v36, Cert.Reference11Ideal.Read.val_main_v35, Cert.Reference11Ideal.Read.val_main_v34, Cert.Reference11Ideal.Read.val_main_v33, Cert.Reference11Ideal.Read.val_main_v32, Cert.Reference11Ideal.Read.val_main_v31, Cert.Reference11Ideal.Read.val_main_v30, Cert.Reference11Ideal.Read.val_main_v29, Cert.Reference11Ideal.Read.val_main_v28, Cert.Reference11Ideal.Read.val_main_v27, Cert.Reference11Ideal.Read.val_main_v26, Cert.Reference11Ideal.Read.val_main_v25, Cert.Reference11Ideal.Read.val_main_v24, Cert.Reference11Ideal.Read.val_main_v23, Cert.Reference11Ideal.Read.val_main_v22, Cert.Reference11Ideal.Read.val_main_v4, Cert.Reference11Ideal.Read.val_main_v3, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7]
  simp only [v21_at]
  rfl

theorem v50_at (g : Fin 8) (r s : Fin 128) : Cert.Reference11Ideal.Read.val_main_v50 (F := Ideal) x2 (ix3 g r s)
    = if s.val ≤ r.val then x2 (ix4 0 g r s) else 0 := by
  pointwise [Cert.Reference11Ideal.Read.val_main_v50, Cert.Reference11Ideal.Read.val_main_v49, Cert.Reference11Ideal.Read.val_main_v48, Cert.Reference11Ideal.Read.val_main_v47, Cert.Reference11Ideal.Read.val_main_v46, Cert.Reference11Ideal.Read.val_main_v6, Cert.Reference11Ideal.Read.val_main_v5, Cert.Reference11Ideal.Read.val_main_c, Cert.Reference11Ideal.Read.val_main_cst_8, Cert.Reference11Ideal.Read.val_main_call0_c, Cert.Reference11Ideal.Read.val_main_call0_c_0, Cert.Reference11Ideal.Read.val_main_call0_v0, Cert.Reference11Ideal.Read.val_main_call0_v1, Cert.Reference11Ideal.Read.val_main_call0_v2, Cert.Reference11Ideal.Read.val_main_call0_v3, Cert.Reference11Ideal.Read.val_main_call0_v4, Cert.Reference11Ideal.Read.val_main_call0_v5, Cert.Reference11Ideal.Read.val_main_call1_v0]
  rw [show IntOp.addi (BitVec.ofNat 32 r.val) 0#32 = BitVec.ofNat 32 r.val from BitVec.add_zero _,
    show IntOp.cmpi .sge (BitVec.ofNat 32 r.val) (BitVec.ofNat 32 s.val) = IntOp.cmpi .sle (BitVec.ofNat 32 s.val) (BitVec.ofNat 32 r.val) from rfl,
    cmpi_sle_ofNat (by omega) (by omega)]
  by_cases h : s.val ≤ r.val <;> simp [h, Scalar.select]

/-- The reference at row `i`, column `q`. -/
theorem ref_at (i : Fin 8192) (q : Fin 1024) : REF x0 x1 x2 x3 (ix2 i q)
    = mixed (gl (x0 (ix2 i ⟨q.val, by omega⟩))) ⟨i.val % 128, by omega⟩ (fun s => x2 (ix4 0 ⟨q.val / 128, by omega⟩ ⟨i.val % 128, by omega⟩ s))
      (fun s => cen (fun k => gl (x0 (ix2 ⟨i.val / 128 * 128 + s.val, by omega⟩ ⟨1024 + k.val, by omega⟩))) (x1 (ix2 0 q)) q)
      (x3 (ix3 0 ⟨q.val / 128, by omega⟩ ⟨i.val % 128, by omega⟩)) := by
  pointwise [REF, Cert.Reference11Ideal.Read.val_main_v60, Cert.Reference11Ideal.Read.val_main_v59, Cert.Reference11Ideal.Read.val_main_v58, Cert.Reference11Ideal.Read.val_main_v57, Cert.Reference11Ideal.Read.val_main_v56, Cert.Reference11Ideal.Read.val_main_v55, Cert.Reference11Ideal.Read.val_main_v54, Cert.Reference11Ideal.Read.val_main_v53, Cert.Reference11Ideal.Read.val_main_v52, Cert.Reference11Ideal.Read.val_main_v51, Cert.Reference11Ideal.Read.val_main_v45, Cert.Reference11Ideal.Read.val_main_v22, Cert.Reference11Ideal.Read.val_main_v8, Cert.Reference11Ideal.Read.val_main_v7]
  simp only [v21_at, v44_at, v50_at]
  have h1 : i.val / 2048 * 2048 + i.val % 2048 = i.val := by omega
  have h2 (s : ℕ) : i.val / 2048 * 2048 + (i.val % 2048 / 128 * 128 + s) = i.val / 128 * 128 + s := by omega
  have h3 : i.val % 2048 % 128 = i.val % 128 := by omega
  simp only [h1, h2, h3]
  exact congrArg₂ (· * ·) rfl (congrArg₂ (· + ·) (Finset.sum_congr rfl fun s _ => mul_comm _ _) rfl)

end ref

/-- Where a block element of the result sits. -/
theorem place (t : Fin cfg0.N) (r : Fin 512) (q : Fin 1024) : ((cfg0.win 4).blk t).view.emb (ix2 r q) = ix2 (rowAt t r) q := by
  funext a
  refine Fin.ext (((cfg0.win 4).rect_emb_val_off t (ix2 r q) a).trans ?_)
  match a with
  | ⟨0, _⟩ =>
    show win0_4.index t 0 * 512 + r.val = t.val * 512 + r.val
    rw [(idx t).2.2.2.2]; rfl
  | ⟨1, _⟩ =>
    show win0_4.index t 1 * 1024 + q.val = q.val
    rw [(idx t).2.2.2.2]; simp

/-- What a point stores is the reference at the place its block element sits at. -/
theorem point (c : Dev nD) (t : Fin cfg0.N) (y : S512x1024.Idx) : outsAt0 m c t y
    = REF (m ((c : Thread nD τ).loc main_arg0)) (m ((c : Thread nD τ).loc main_arg1)) (m ((c : Thread nD τ).loc main_arg2))
      (m ((c : Thread nD τ).loc main_arg3)) (((cfg0.win 4).blk t).view.emb y) := by
  obtain ⟨r, q, rfl⟩ : ∃ (r : Fin 512) (q : Fin 1024), y = ix2 r q := ⟨y 0, y 1, (ix2_eta y).symm⟩
  rw [place, ref_at, outs_at]
  show gat _ _ _ _ ⟨r.val / 128, by omega⟩ ⟨q.val / 128, by omega⟩ ⟨r.val % 128, by omega⟩ ⟨q.val % 128, by omega⟩ = _
  unfold gat
  simp only [p_at m c t, w_at m c t, g_at m c t, b_at m c t]
  have h1 (r : ℕ) : 128 * (r / 128) + r % 128 = r := by omega
  have h2 : (rowAt t r).val % 128 = r.val % 128 := by
    show (t.val * 512 + r.val) % 128 = _
    omega
  have h3 (s : Fin 128) : rowAt t ⟨128 * (r.val / 128) + s.val, by omega⟩ = ⟨(rowAt t r).val / 128 * 128 + s.val, by omega⟩ := by
    refine Fin.ext ?_
    show t.val * 512 + (128 * (r.val / 128) + s.val) = (t.val * 512 + r.val) / 128 * 128 + s.val
    omega
  simp only [h1, h2, h3]

/-- The output array after the run. -/
theorem final (c : Dev nD) : (dats m 0 c).arrAt 4 cfg0.N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  exact point m c t y

end Cert.Kernel11Ideal.Sgu

end
-- ==== Proof.Feed.lean ====
/- The last feed-forward, at the exact reals: after the run the output array is the reference's result. -/
module

public import proofs.«01_k».proof.Proof.Sigmoid
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Feed

open Idealize.ShloMosaic Idealize.ShloMosaic.TcCoe Idealize.SL.Sem
open Idealize.ShloMosaic.Pipeline (Dat)
open Cert.Kernel2Ideal Cert.Kernel2Ideal.Gen
open scoped BigOperators

variable (m : (ℓ : Loc nD τ sig) → Buf (Elt Ideal) ℓ)

/-- A load of a whole buffer after a whole write reads what was written. -/
theorem readCov_whole {sig : RefSig} {κ : Kind} {sp : Space} {s : Shape} {e : EltTy} {Val : EltTy → Type}
    [∀ e, Nonempty (Val e)] (v : View sig κ sp s e) {off : Fin s.rank → ℕ} (inb : ∀ a, off a + s.size a ≤ s.size a)
    (w : s.Idx → Val e) (h : off = fun _ => 0) :
    v.readCov [⟨Rect.whole s, w⟩] (Rect.unit off s.size inb).toLoadRect = w := by
  subst h
  exact View.readCov_cons_toLoadRect v (Rect.whole s) w []

/-- The windows' block indices, and where the residual's rows are read. -/
theorem idx : ∀ t : Fin cfg0.N, win0_0.index t = ![t.val / 11, 0] ∧ win0_1.index t = ![0, 0]
    ∧ win0_2.index t = ![1, 0, t.val % 11] ∧ win0_3.index t = ![1, 0, 11 + t.val % 11]
    ∧ win0_4.index t = ![1, t.val % 11, 0] ∧ win0_5.index t = ![t.val / 11, 0] ∧ t.val < 88 :=
  (by decide +kernel : ∀ t : Fin grid0.N, _)

theorem off1 : ∀ t : Fin cfg0.N, k0_off1 (grid0.coords t) = ![t.val / 11 * 1024, 0] :=
  (by decide +kernel : ∀ t : Fin grid0.N, _)

/-- The residual's rows at an index. -/
theorem rows_at (c : Dev nD) (i : S8192x2048.Idx) : V m c main_v1 i
    = m ((c : Thread nD τ).loc main_arg1) (ix3 ⟨i 0 / 2048, by have : (i 0).val < 8192 := (i 0).isLt; omega⟩ ⟨i 0 % 2048, by omega⟩ (i 1)) := by
  entry_read
  idx_vars i
  pointwise

/-- The accumulating step. -/
theorem pay1_at (acc h wg wu wo) (j : S1024x2048.Idx) : k0_pay1 (F := Ideal) acc (k0_pay3 h wg wu) (k0_pay4 wo) j
    = acc j + ∑ k : Fin 512, k0_pay3 h wg wu (ix2 (j 0) k) * wo (ix3 0 k (j 1)) := by
  pointwise [k0_pay1, k0_pay4]

/-- The half gated unit of a block of columns. -/
theorem pay3_at (h wg wu) (j : S1024x512.Idx) : k0_pay3 (F := Ideal) h wg wu j
    = Cert.Layer.hswi (∑ k : Fin 2048, h (ix2 (j 0) k) * wg (ix3 0 k (j 1))) (∑ k : Fin 2048, h (ix2 (j 0) k) * wu (ix3 0 k (j 1))) := by
  pointwise [k0_pay3]
  exact Cert.Layer.hswi_eq _ _

/-- The norm of the finished rows. -/
theorem pay2_at (x g) (r : Fin 1024) (q : Fin 2048) : k0_pay2 (F := Ideal) x g (ix2 r q)
    = Cert.Layer.nrm (fun k => x (ix2 r k)) (g (ix2 0 q)) q := by
  pointwise [k0_pay2]
  rfl

/-- What point `t` adds at an index. -/
def part (c : Dev nD) (t : Fin cfg0.N) (j : S1024x2048.Idx) : EReal :=
  ∑ k : Fin 512, k0_pay3 (F := Ideal) (iblk m c 0 t) (iblk m c 2 t) (iblk m c 3 t) (ix2 (j 0) k) * iblk m c 4 t (ix3 0 k (j 1))

/-- What the first point of a run starts from. -/
def base (c : Dev nD) (t : Fin cfg0.N) (j : S1024x2048.Idx) : EReal :=
  if t.val % 11 = 0 then V m c main_v1 (ix2 ⟨t.val / 11 * 1024 + (j 0).val, by
    have : (j 0).val < 1024 := (j 0).isLt
    have : t.val < 88 := t.isLt
    omega⟩ (j 1)) else 0

theorem reset (c : Dev nD) (t : Fin cfg0.N) (h : t.val % 11 = 0) (j) :
    (outsAt0 m c t.val t.isLt).2 j = 0 + (base m c t j + part m c t j) := by
  rw [outsAt0_A m c t h h (by omega)]
  frame_out
  rw [pay1_at, zero_add, readCov_whole _ _ _ (by funext a; fin_cases a <;> rfl)]
  congr 1
  unfold base
  rw [if_pos h]
  refine congrArg (V m c main_v1) (funext fun a => Fin.ext ?_)
  match a with
  | ⟨0, _⟩ =>
    show k0_off1 (grid0.coords t) 0 + 1 * (j 0).val = t.val / 11 * 1024 + (j 0).val
    rw [off1]; simp
  | ⟨1, _⟩ =>
    show k0_off1 (grid0.coords t) 1 + 1 * (j 1).val = (j 1).val
    rw [off1]; simp

theorem step (c : Dev nD) (t : Fin cfg0.N) (h : ¬ t.val % 11 = 0) (j) :
    (outsAt0 m c t.val t.isLt).2 j = (outsAt0 m c (t.val - 1) (Nat.lt_of_le_of_lt (Nat.sub_le _ _) t.isLt)).2 j
      + (base m c t j + part m c t j) := by
  have hb : base m c t j = 0 := if_neg h
  rw [hb, zero_add]
  by_cases h' : t.val % 11 = 10
  · rw [outsAt0_C m c t h h h']
    frame_out
    rw [pay1_at]
    simp only [read_unread_whole]
    rfl
  · rw [outsAt0_B m c t h h h']
    frame_out
    rw [pay1_at]
    simp only [read_unread_whole]
    rfl

/-- At a run's last point the output is the norm of the accumulated rows. -/
theorem outC (c : Dev nD) (t : Fin cfg0.N) (h : ¬ t.val % 11 = 0) (h' : t.val % 11 = 10) :
    (outsAt0 m c t.val t.isLt).1 = k0_pay2 (outsAt0 m c t.val t.isLt).2 (iblk m c 1 t) := by
  rw [outsAt0_C m c t h h h']
  frame_out

/-- The reference's sum before the norm, at an index. -/
theorem ref13 (h : FVec Ideal S4x2048x2048 .bf16) (x : FVec Ideal S4x2048x2048 .f32) (wi : FVec Ideal S2x2048x11264 .f32)
    (wo : FVec Ideal S2x5632x2048 .f32) (i : S4x2048x2048.Idx) : Cert.Reference2Ideal.Read.val_main_v13 (F := Ideal) h x wi wo i
    = x i + ∑ l : Fin 5632, Cert.Layer.hswi (∑ k : Fin 2048, h (ix3 (i 0) (i 1) k) * wi (ix3 1 k ⟨l.val, by omega⟩))
        (∑ k : Fin 2048, h (ix3 (i 0) (i 1) k) * wi (ix3 1 k ⟨5632 + l.val, by omega⟩)) * wo (ix3 1 l (i 2)) := by
  pointwise [Cert.Reference2Ideal.Read.val_main_v13, Cert.Reference2Ideal.Read.val_main_v12, Cert.Reference2Ideal.Read.val_main_v11, Cert.Reference2Ideal.Read.val_main_v10, Cert.Reference2Ideal.Read.val_main_v9, Cert.Reference2Ideal.Read.val_main_v8, Cert.Reference2Ideal.Read.val_main_call0_v5, Cert.Reference2Ideal.Read.val_main_call0_v4, Cert.Reference2Ideal.Read.val_main_call0_v3, Cert.Reference2Ideal.Read.val_main_call0_v2, Cert.Reference2Ideal.Read.val_main_call0_v1, Cert.Reference2Ideal.Read.val_main_call0_v0, Cert.Reference2Ideal.Read.val_main_call0_cst, Cert.Reference2Ideal.Read.val_main_call0_cst_0, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst]
  congr 1
  rw [Cert.Layer.lit_half, Cert.Layer.half_sum]
  exact Fin.sum_fin_congr fun l => (mul_assoc _ _ _).symm

/-- A row of the reference's sum before the norm, and a place's row and column in it. -/
abbrev PRE (h : FVec Ideal S4x2048x2048 .bf16) (x : FVec Ideal S4x2048x2048 .f32) (wi : FVec Ideal S2x2048x11264 .f32)
    (wo : FVec Ideal S2x5632x2048 .f32) (r : Fin 8192) (q : Fin 2048) : EReal :=
  Cert.Reference2Ideal.Read.val_main_v13 (F := Ideal) h x wi wo
    (ix3 ⟨r.val / 2048, by omega⟩ ⟨r.val % 2048, by omega⟩ q)

/-- The reference's result over the arguments. -/
abbrev REF (h : FVec Ideal S4x2048x2048 .bf16) (x : FVec Ideal S4x2048x2048 .f32) (wi : FVec Ideal S2x2048x11264 .f32)
    (wo : FVec Ideal S2x5632x2048 .f32) (g : FVec Ideal S2048 .f32) : FVec Ideal S8192x2048 .f32 :=
  Cert.Reference2Ideal.Read.val_main_v27 (F := Ideal) h x wi wo g

/-- The reference's result at an index, over the sum before the norm. -/
theorem ref27 (h : FVec Ideal S4x2048x2048 .bf16) (x : FVec Ideal S4x2048x2048 .f32) (wi : FVec Ideal S2x2048x11264 .f32)
    (wo : FVec Ideal S2x5632x2048 .f32) (g : FVec Ideal S2048 .f32) (i : S8192x2048.Idx) :
    REF h x wi wo g i = Cert.Layer.nrm (PRE h x wi wo (i 0)) (g (ix1 (i 1))) (i 1) := by
  pointwise [REF, PRE, Cert.Reference2Ideal.Read.val_main_v27, Cert.Reference2Ideal.Read.val_main_v26, Cert.Reference2Ideal.Read.val_main_v25, Cert.Reference2Ideal.Read.val_main_v24, Cert.Reference2Ideal.Read.val_main_v23, Cert.Reference2Ideal.Read.val_main_v22, Cert.Reference2Ideal.Read.val_main_v21, Cert.Reference2Ideal.Read.val_main_v20, Cert.Reference2Ideal.Read.val_main_v19, Cert.Reference2Ideal.Read.val_main_v18, Cert.Reference2Ideal.Read.val_main_v17, Cert.Reference2Ideal.Read.val_main_v16, Cert.Reference2Ideal.Read.val_main_v15, Cert.Reference2Ideal.Read.val_main_v14, Cert.Reference2Ideal.Read.val_main_cst_0, Cert.Reference2Ideal.Read.val_main_cst_1, Cert.Reference2Ideal.Read.val_main_cst_2]
  rfl

/-- The normalised activations and the norm's row, at an index. -/
theorem acts_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

theorem norm_at (c : Dev nD) (i : S1x2048.Idx) : V m c main_v2 i = m ((c : Thread nD τ).loc main_arg4) (ix1 (i 1)) := by
  entry_read
  idx_vars i
  pointwise

/-- The weights' blocks at an index. -/
theorem wg_at (c : Dev nD) (t : Fin cfg0.N) (k : Fin 2048) (l : Fin 512) : iblk m c 2 t (ix3 0 k l)
    = m ((c : Thread nD τ).loc main_arg2) (ix3 1 k ⟨t.val % 11 * 512 + l.val, by omega⟩) := by
  blk_point [iblk, V, idx t]

theorem wu_at (c : Dev nD) (t : Fin cfg0.N) (k : Fin 2048) (l : Fin 512) : iblk m c 3 t (ix3 0 k l)
    = m ((c : Thread nD τ).loc main_arg2) (ix3 1 k ⟨5632 + (t.val % 11 * 512 + l.val), by omega⟩) := by
  blk_point [iblk, V, idx t]

theorem wo_at (c : Dev nD) (t : Fin cfg0.N) (l : Fin 512) (q : Fin 2048) : iblk m c 4 t (ix3 0 l q)
    = m ((c : Thread nD τ).loc main_arg3) (ix3 1 ⟨t.val % 11 * 512 + l.val, by omega⟩ q) := by
  blk_point [iblk, V, idx t]

/-- The row of the whole array that row `r` of point `t`'s block is. -/
def row (t : Fin cfg0.N) (r : Fin 1024) : Fin 8192 := ⟨t.val / 11 * 1024 + r.val, by
  have : t.val < 88 := t.isLt
  omega⟩

/-- The four arguments the sum before the norm reads. -/
abbrev PREm (c : Dev nD) (r : Fin 8192) (q : Fin 2048) : EReal :=
  PRE (m ((c : Thread nD τ).loc main_arg0)) (m ((c : Thread nD τ).loc main_arg1)) (m ((c : Thread nD τ).loc main_arg2))
    (m ((c : Thread nD τ).loc main_arg3)) r q

/-- At a run's last point the scratch holds the reference's sum before the norm. -/
theorem acc_at (c : Dev nD) (t : Fin cfg0.N) (h' : t.val % 11 = 10) (r : Fin 1024) (q : Fin 2048) :
    (outsAt0 m c t.val t.isLt).2 (ix2 r q) = PREm m c (row t r) q := by
  refine (Pipeline.eq_sum_fin_of_reset_step_apply_of_flush (fun n hn => (outsAt0 m c n hn).2) 11 (fun _ => (0 : EReal))
    (fun t j => base m c t j + part m c t j) (reset m c) (step m c) t h' (ix2 r q)).trans ?_
  refine Eq.trans ?_ (ref13 _ _ _ _ _).symm
  rw [zero_add]
  refine Finset.sum_add_distrib.trans ?_
  congr 1
  · refine (Fin.sum_univ_succ _).trans ((congrArg₂ (· + ·) ?_ (Finset.sum_eq_zero fun s _ => if_neg ?_)).trans (add_zero _))
    · unfold base
      rw [if_pos (by show (11 * (t.val / 11) + 0) % 11 = 0; omega)]
      refine (rows_at m c _).trans ?_
      refine congrArg (m ((c : Thread nD τ).loc main_arg1)) (funext fun a => Fin.ext ?_)
      have e : (11 * (t.val / 11) + 0) / 11 = t.val / 11 := by omega
      match a with
      | ⟨0, _⟩ =>
        show ((11 * (t.val / 11) + 0) / 11 * 1024 + r.val) / 2048 = (t.val / 11 * 1024 + r.val) / 2048
        rw [e]
      | ⟨1, _⟩ =>
        show ((11 * (t.val / 11) + 0) / 11 * 1024 + r.val) % 2048 = (t.val / 11 * 1024 + r.val) % 2048
        rw [e]
      | ⟨2, _⟩ => rfl
    · show ¬(11 * (t.val / 11) + (s.val + 1)) % 11 = 0
      have := s.isLt
      omega
  · unfold part
    refine Fin.sum_mul_add_congr fun s k hl => ?_
    rw [pay3_at]
    reads_congr
    · refine (acts_at m c _).trans ?_
      blk_ext [row, idx ⟨_, Pipeline.run_point_lt_of_flush t h' s⟩]
    · refine (wg_at m c _ _ _).trans ?_
      refine congrArg (m ((c : Thread nD τ).loc main_arg2)) (congrArg (ix3 1 k) (Fin.ext ?_))
      simp [Nat.mul_add_mod, Nat.mod_eq_of_lt s.isLt]
    · refine (wu_at m c _ _ _).trans ?_
      refine congrArg (m ((c : Thread nD τ).loc main_arg2)) (congrArg (ix3 1 k) (Fin.ext ?_))
      simp [Nat.mul_add_mod, Nat.mod_eq_of_lt s.isLt]
    · refine (wo_at m c _ _ _).trans ?_
      refine congrArg (m ((c : Thread nD τ).loc main_arg3)) (congrArg (fun z => ix3 1 z q) (Fin.ext ?_))
      simp [Nat.mul_add_mod, Nat.mod_eq_of_lt s.isLt]

/-- What a run's last point stores is the reference at the place its block element sits at. -/
theorem point (c : Dev nD) (t : Fin cfg0.N) (h' : t.val % 11 = 10) (y) :
    k0_pay2 (F := Ideal) (outsAt0 m c t.val t.isLt).2 (iblk m c 1 t) y
      = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  idx_vars y
  have e0 : (((cfg0.win 5).blk t).view.emb (ix2 y0 y1) 0 : Fin 8192) = row t y0 := by
    refine Fin.ext (((cfg0.win 5).rect_emb_val_off t (ix2 y0 y1) 0).trans ?_)
    show win0_5.index t 0 * 1024 + y0.val = t.val / 11 * 1024 + y0.val
    rw [(idx t).2.2.2.2.2.1]; rfl
  have e1 : (((cfg0.win 5).blk t).view.emb (ix2 y0 y1) 1 : Fin 2048) = y1 := by
    refine Fin.ext (((cfg0.win 5).rect_emb_val_off t (ix2 y0 y1) 1).trans ?_)
    show win0_5.index t 1 * 2048 + y1.val = y1.val
    rw [(idx t).2.2.2.2.2.1]; simp
  refine (pay2_at _ _ _ _).trans (Eq.trans ?_ (ref27 _ _ _ _ _ _).symm)
  rw [e0, e1]
  simp only [acc_at m c t h']
  refine congrArg (fun g => Cert.Layer.nrm _ g _) ((norm_at m c _).trans ?_)
  blk_ext [idx t]

/-- The output array after the run. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h' : t.val % 11 = 10 := (flush0_5 t).mp hf
  blk_simp
  rw [after0_5, outC m c t (by omega) h']
  exact point m c t h' y

end Cert.Kernel2Ideal.Feed

end
-- ==== Proof.FeedXRun.lean ====
module

public import proofs.«01_k».proof.Proof.Gen.Kernel8Ideal.Frame
public import proofs.«01_k».proof.Proof.Gen.Kernel8Ideal.Skeleton

@[expose] public section

set_option maxRecDepth 16384

/-! One point of the feed-forward that returns the residual too. The residual's rows are copied into the first
result's buffer at a run's first point and every point adds to them; at a run's last point the second result's
buffer gets the norm of the finished rows. -/

noncomputable section

namespace Cert.Kernel8Ideal.FeedX

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The residual, left where the host put it. -/
abbrev resM : Memref sig .tc .hbm S8192x2048 .f32 := Memref.whole main_v1

/-- The residual's whole buffer on a core, and holding it at contents `f`. -/
abbrev ResBuf (c : Dev nD) : Type := Buf (Elt F) (resM.view.loc (c : Thread nD τ))
abbrev resPt (c : Dev nD) (f : ResBuf (F := F) c) : sProp 𝕄 := resM.view.loc (c : Thread nD τ) ↦{fullShare} f

set_option maxHeartbeats 1000000 in
/-- A run's first point: the residual's rows are copied into the first result's buffer, whatever it held, and added to. -/
noncomputable def runA (c : Dev nD) (i : grid0.Coords) (arg2 : Memref sig .tc .vmem S1024x2048 .bf16) (harg2 : arg2.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S1024x2048 .f32) (harg8 : arg8.IsWhole) (arg9 : Memref sig .tc .vmem S1024x2048 .bf16) (harg9 : arg9.IsWhole)
    (hc0 : k0_cond1 i = 1#1) (hc1 : k0_cond2 i = 1#1) (hc2 : ¬k0_cond3 i = 1#1)
    (x0 : Vec F S1024x2048 .bf16) (x1 : Vec F S1x2048 .f32) (x2 : Vec F S1x2048x512 .f32) (x3 : Vec F S1x2048x512 .f32) (x4 : Vec F S1x512x2048 .f32) (fh : ResBuf (F := F) c) :
    { LX : List (View.Piece (Elt F) S1024x2048 .f32) //
      ∀ (xi : Vec F S1024x2048 .bf16) (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xi ∗ semVal ((c : Thread nD τ), SemLoc.dma 11) 0 ∗ resPt c fh ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4
              ∗ (∃ f, arg8.view.loc (c : Thread nD τ) ↦[arg8.view.set]{fullShare} arg8.view.writes (Elt F) f LX) ∗ owns (c : Thread nD τ) arg9 fullShare xi ∗ semVal ((c : Thread nD τ), SemLoc.dma 11) 0 ∗ resPt c fh ∗ (∃ W', owes (c : Thread nD τ) 0 W')) -∗ K ⟨⟩))
          ⊢ wp frame (wpE (defs₀ (F := F)) Variants.none c none) Set.univ
            (cc0_ffn i arg2 harg2 resM (Memref.isWhole_whole _) arg4 harg4 arg5 harg5 arg6 harg6 arg7 harg7 arg8 harg8 arg9 harg9 cc0_scratch0) K } := by
  refine ⟨?_, fun xi W K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hq, Hh, HW, Hk⟩
    obtain rfl := harg2.eq_unread hf0
    obtain rfl := harg4.eq_unread hf1
    obtain rfl := harg5.eq_unread hf2
    obtain rfl := harg6.eq_unread hf3
    obtain rfl := harg7.eq_unread hf4
    obtain rfl := harg9.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    isplitl [Hq]; · iexact Hq
    isplitl [Hh]; · iexact Hh
    iexists _; iexact HW

set_option maxHeartbeats 1000000 in
/-- A point inside a run: the first result's buffer, at what the point before left, is added to. -/
noncomputable def runB (c : Dev nD) (i : grid0.Coords) (arg2 : Memref sig .tc .vmem S1024x2048 .bf16) (harg2 : arg2.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S1024x2048 .f32) (harg8 : arg8.IsWhole) (arg9 : Memref sig .tc .vmem S1024x2048 .bf16) (harg9 : arg9.IsWhole)
    (hc0 : ¬k0_cond1 i = 1#1) (hc1 : ¬k0_cond2 i = 1#1) (hc2 : ¬k0_cond3 i = 1#1)
    (x0 : Vec F S1024x2048 .bf16) (x1 : Vec F S1x2048 .f32) (x2 : Vec F S1x2048x512 .f32) (x3 : Vec F S1x2048x512 .f32) (x4 : Vec F S1x512x2048 .f32) (xo : Vec F S1024x2048 .f32) (fh : ResBuf (F := F) c) :
    { LX : List (View.Piece (Elt F) S1024x2048 .f32) //
      ∀ (xi : Vec F S1024x2048 .bf16) (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xo ∗ owns (c : Thread nD τ) arg9 fullShare xi ∗ semVal ((c : Thread nD τ), SemLoc.dma 11) 0 ∗ resPt c fh ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4
              ∗ (∃ f, arg8.view.loc (c : Thread nD τ) ↦[arg8.view.set]{fullShare} arg8.view.writes (Elt F) f LX) ∗ owns (c : Thread nD τ) arg9 fullShare xi ∗ semVal ((c : Thread nD τ), SemLoc.dma 11) 0 ∗ resPt c fh ∗ (∃ W', owes (c : Thread nD τ) 0 W')) -∗ K ⟨⟩))
          ⊢ wp frame (wpE (defs₀ (F := F)) Variants.none c none) Set.univ
            (cc0_ffn i arg2 harg2 resM (Memref.isWhole_whole _) arg4 harg4 arg5 harg5 arg6 harg6 arg7 harg7 arg8 harg8 arg9 harg9 cc0_scratch0) K } := by
  refine ⟨?_, fun xi W K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hq, Hh, HW, Hk⟩
    obtain rfl := harg2.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    isplitl [Hq]; · iexact Hq
    isplitl [Hh]; · iexact Hh
    iexists _; iexact HW

set_option maxHeartbeats 1000000 in
/-- A run's last point: the first result's buffer is added to, and the second result's gets the norm of the rows. -/
noncomputable def runC (c : Dev nD) (i : grid0.Coords) (arg2 : Memref sig .tc .vmem S1024x2048 .bf16) (harg2 : arg2.IsWhole) (arg4 : Memref sig .tc .vmem S1x2048 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x512x2048 .f32) (harg7 : arg7.IsWhole) (arg8 : Memref sig .tc .vmem S1024x2048 .f32) (harg8 : arg8.IsWhole) (arg9 : Memref sig .tc .vmem S1024x2048 .bf16) (harg9 : arg9.IsWhole)
    (hc0 : ¬k0_cond1 i = 1#1) (hc1 : ¬k0_cond2 i = 1#1) (hc2 : k0_cond3 i = 1#1)
    (x0 : Vec F S1024x2048 .bf16) (x1 : Vec F S1x2048 .f32) (x2 : Vec F S1x2048x512 .f32) (x3 : Vec F S1x2048x512 .f32) (x4 : Vec F S1x512x2048 .f32) (xo : Vec F S1024x2048 .f32) (fh : ResBuf (F := F) c) :
    Σ' (LX : List (View.Piece (Elt F) S1024x2048 .f32)), { LH : List (View.Piece (Elt F) S1024x2048 .bf16) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xo ∗ (∃ d, owns (c : Thread nD τ) arg9 fullShare d) ∗ semVal ((c : Thread nD τ), SemLoc.dma 11) 0 ∗ resPt c fh ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4
              ∗ (∃ f, arg8.view.loc (c : Thread nD τ) ↦[arg8.view.set]{fullShare} arg8.view.writes (Elt F) f LX) ∗ (∃ f, arg9.view.loc (c : Thread nD τ) ↦[arg9.view.set]{fullShare} arg9.view.writes (Elt F) f LH) ∗ semVal ((c : Thread nD τ), SemLoc.dma 11) 0 ∗ resPt c fh ∗ (∃ W', owes (c : Thread nD τ) 0 W')) -∗ K ⟨⟩))
          ⊢ wp frame (wpE (defs₀ (F := F)) Variants.none c none) Set.univ
            (cc0_ffn i arg2 harg2 resM (Memref.isWhole_whole _) arg4 harg4 arg5 harg5 arg6 harg6 arg7 harg7 arg8 harg8 arg9 harg9 cc0_scratch0) K } := by
  refine ⟨?_, ?_, fun W K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hq, Hh, HW, Hk⟩
    obtain rfl := harg2.eq_unread hf0
    obtain rfl := harg4.eq_unread hf1
    obtain rfl := harg5.eq_unread hf2
    obtain rfl := harg6.eq_unread hf3
    obtain rfl := harg7.eq_unread hf4
    obtain rfl := harg8.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [Hq]; · iexact Hq
    isplitl [Hh]; · iexact Hh
    iexists _; iexact HW

end Cert.Kernel8Ideal.FeedX

end
-- ==== Proof.FeedXFrame.lean ====
module

public import proofs.«01_k».proof.Proof.FeedXRun
public import Idealize.ShloMosaic.Lib.Claim

@[expose] public section

set_option maxRecDepth 16384

/-! The feed-forward that returns the residual too: what its two results' buffers hold point by point, the body's
obligation at every point, and the run of the whole program. -/

noncomputable section

namespace Cert.Kernel8Ideal.FeedX

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which points are a run's first and last -/

theorem first1 (t : Fin cfg0.N) : k0_cond1 (grid0.coords t) = 1#1 ↔ t.val % 11 = 0 := by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond1, e0, e1]
  word_cmp

theorem first2 (t : Fin cfg0.N) : k0_cond2 (grid0.coords t) = 1#1 ↔ t.val % 11 = 0 := by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond2, e0, e1]
  word_cmp

theorem last3 (t : Fin cfg0.N) : k0_cond3 (grid0.coords t) = 1#1 ↔ t.val % 11 = 10 := by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond3, e0, e1]
  word_cmp

/-- The second result's window is idle away from a run's last point, and is not written back there. -/
theorem idle6 (t : Fin cfg0.N) (h : ¬t.val % 11 = 10) : cfg0.idle 6 (grid0.coords t) = true := by
  have h3 : ¬k0_cond3 (grid0.coords t) = 1#1 := fun e => h ((last3 t).mp e)
  show (!(k0_cond3 (grid0.coords t) == 1#1)) = true
  simp [h3]

theorem live6 (t : Fin cfg0.N) (h : t.val % 11 = 10) : cfg0.idle 6 (grid0.coords t) = false := by
  have h3 : k0_cond3 (grid0.coords t) = 1#1 := (last3 t).mpr h
  show (!(k0_cond3 (grid0.coords t) == 1#1)) = false
  simp [h3]

theorem kept6 (t : Fin cfg0.N) (h : ¬t.val % 11 = 10) : (cfg0.win 6).flush t = false :=
  Bool.eq_false_iff.mpr fun e => h ((flush0_6 t).mp e)

/-! ## What the results' buffers hold -/

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hs6 (t : Fin cfg0.N) : (st0_6 t).IsWhole := hstage0_6 ((cfg0.slots t 6).cast nbuf0_6)

/-- A buffer of each result, through which its contents are read. -/
abbrev VX : View sig .tc .vmem S1024x2048 .f32 := (Memref.whole cc0_stg5_0 : Memref sig .tc .vmem S1024x2048 .f32).view
abbrev VH : View sig .tc .vmem S1024x2048 .bf16 := (Memref.whole cc0_stg6_0 : Memref sig .tc .vmem S1024x2048 .bf16).view

/-- The three kinds of point at a point's own buffers and blocks. -/
abbrev atA (c : Dev nD) (t : Fin cfg0.N) (h : t.val % 11 = 0) :=
  runA (F := F) c (grid0.coords t) (st0_0 t) (hs0 t) (st0_1 t) (hs1 t) (st0_2 t) (hs2 t) (st0_3 t) (hs3 t) (st0_4 t) (hs4 t)
    (st0_5 t) (hs5 t) (st0_6 t) (hs6 t) ((first1 t).mpr h) ((first2 t).mpr h) (fun e => by have := (last3 t).mp e; omega)
    (iblk m c 0 t) (iblk m c 1 t) (iblk m c 2 t) (iblk m c 3 t) (iblk m c 4 t) (V m c main_v1)

abbrev atB (c : Dev nD) (t : Fin cfg0.N) (h : ¬t.val % 11 = 0) (h' : ¬t.val % 11 = 10) (xo : Vec F S1024x2048 .f32) :=
  runB (F := F) c (grid0.coords t) (st0_0 t) (hs0 t) (st0_1 t) (hs1 t) (st0_2 t) (hs2 t) (st0_3 t) (hs3 t) (st0_4 t) (hs4 t)
    (st0_5 t) (hs5 t) (st0_6 t) (hs6 t) (fun e => h ((first1 t).mp e)) (fun e => h ((first2 t).mp e)) (fun e => h' ((last3 t).mp e))
    (iblk m c 0 t) (iblk m c 1 t) (iblk m c 2 t) (iblk m c 3 t) (iblk m c 4 t) xo (V m c main_v1)

abbrev atC (c : Dev nD) (t : Fin cfg0.N) (h : ¬t.val % 11 = 0) (h' : t.val % 11 = 10) (xo : Vec F S1024x2048 .f32) :=
  runC (F := F) c (grid0.coords t) (st0_0 t) (hs0 t) (st0_1 t) (hs1 t) (st0_2 t) (hs2 t) (st0_3 t) (hs3 t) (st0_4 t) (hs4 t)
    (st0_5 t) (hs5 t) (st0_6 t) (hs6 t) (fun e => h ((first1 t).mp e)) (fun e => h ((first2 t).mp e)) ((last3 t).mpr h')
    (iblk m c 0 t) (iblk m c 1 t) (iblk m c 2 t) (iblk m c 3 t) (iblk m c 4 t) xo (V m c main_v1)

/-- What the body leaves in the first result's buffer. -/
def outA (c : Dev nD) (t : Fin cfg0.N) (h : t.val % 11 = 0) : Vec F S1024x2048 .f32 :=
  VX.read (Elt F) (VX.writes (Elt F) VX.junk (atA m c t h).1)

def outB (c : Dev nD) (t : Fin cfg0.N) (h : ¬t.val % 11 = 0) (h' : ¬t.val % 11 = 10) (xo : Vec F S1024x2048 .f32) : Vec F S1024x2048 .f32 :=
  VX.read (Elt F) (VX.writes (Elt F) VX.junk (atB m c t h h' xo).1)

def outC (c : Dev nD) (t : Fin cfg0.N) (h : ¬t.val % 11 = 0) (h' : t.val % 11 = 10) (xo : Vec F S1024x2048 .f32) : Vec F S1024x2048 .f32 :=
  VX.read (Elt F) (VX.writes (Elt F) VX.junk (atC m c t h h' xo).1)

/-- What a run's last point leaves in the second result's buffer. -/
def outH (c : Dev nD) (t : Fin cfg0.N) (h : ¬t.val % 11 = 0) (h' : t.val % 11 = 10) (xo : Vec F S1024x2048 .f32) : Vec F S1024x2048 .bf16 :=
  VH.read (Elt F) (VH.writes (Elt F) VH.junk (atC m c t h h' xo).2.1)

/-- The stores of a point cover the buffer. -/
theorem coverA (c : Dev nD) (t : Fin cfg0.N) (h : t.val % 11 = 0) (y : S1024x2048.Idx) : ∃ pc ∈ (atA m c t h).1, y ∈ pc.1.set :=
  View.cover_of_tiledL (atA m c t h).1 S1024x2048.size (by sl_kernel_rfl) y

theorem coverB (c : Dev nD) (t : Fin cfg0.N) (h : ¬t.val % 11 = 0) (h' : ¬t.val % 11 = 10) (xo : Vec F S1024x2048 .f32) (y : S1024x2048.Idx) :
    ∃ pc ∈ (atB m c t h h' xo).1, y ∈ pc.1.set :=
  View.cover_of_tiledL (atB m c t h h' xo).1 S1024x2048.size (by sl_kernel_rfl) y

theorem coverC (c : Dev nD) (t : Fin cfg0.N) (h : ¬t.val % 11 = 0) (h' : t.val % 11 = 10) (xo : Vec F S1024x2048 .f32) (y : S1024x2048.Idx) :
    ∃ pc ∈ (atC m c t h h' xo).1, y ∈ pc.1.set :=
  View.cover_of_tiledL (atC m c t h h' xo).1 S1024x2048.size (by sl_kernel_rfl) y

theorem coverH (c : Dev nD) (t : Fin cfg0.N) (h : ¬t.val % 11 = 0) (h' : t.val % 11 = 10) (xo : Vec F S1024x2048 .f32) (y : S1024x2048.Idx) :
    ∃ pc ∈ (atC m c t h h' xo).2.1, y ∈ pc.1.set :=
  View.cover_of_tiledL (atC m c t h h' xo).2.1 S1024x2048.size (by sl_kernel_rfl) y

/-- The first result's buffer after each point. -/
def acc (c : Dev nD) : (n : ℕ) → n < cfg0.N → Vec F S1024x2048 .f32
  | 0, hn => outA m c ⟨0, hn⟩ (Nat.zero_mod _)
  | n + 1, hn =>
    if h : (n + 1) % 11 = 0 then outA m c ⟨n + 1, hn⟩ h
    else if h' : (n + 1) % 11 = 10 then outC m c ⟨n + 1, hn⟩ h h' (acc c n (Nat.lt_of_succ_lt hn))
    else outB m c ⟨n + 1, hn⟩ h h' (acc c n (Nat.lt_of_succ_lt hn))

/-- The first result's buffer after the point before `t`. -/
abbrev prev (c : Dev nD) (t : Fin cfg0.N) : Vec F S1024x2048 .f32 :=
  acc m c (t.val - 1) (Nat.lt_of_le_of_lt (Nat.sub_le _ _) t.isLt)

theorem acc_A (c : Dev nD) (t : Fin cfg0.N) (h : t.val % 11 = 0) : acc m c t.val t.isLt = outA m c t h := by
  obtain ⟨n, hn⟩ := t
  cases n with
  | zero => rfl
  | succ n => exact dif_pos h

theorem acc_B (c : Dev nD) (t : Fin cfg0.N) (h : ¬t.val % 11 = 0) (h' : ¬t.val % 11 = 10) :
    acc m c t.val t.isLt = outB m c t h h' (prev m c t) := by
  obtain ⟨n, hn⟩ := t
  cases n with
  | zero => exact absurd (Nat.zero_mod _) h
  | succ n => exact (dif_neg h).trans (dif_neg h')

theorem acc_C (c : Dev nD) (t : Fin cfg0.N) (h : ¬t.val % 11 = 0) (h' : t.val % 11 = 10) :
    acc m c t.val t.isLt = outC m c t h h' (prev m c t) := by
  obtain ⟨n, hn⟩ := t
  cases n with
  | zero => exact absurd (Nat.zero_mod _) h
  | succ n => exact (dif_neg h).trans (dif_pos h')

/-- The second result's buffer after each point; away from a run's last point it is not read. -/
def nrmd (c : Dev nD) (t : Fin cfg0.N) : Vec F S1024x2048 .bf16 :=
  if h' : t.val % 11 = 10 then outH m c t (by omega) h' (prev m c t) else VH.read (Elt F) VH.junk

theorem nrmd_C (c : Dev nD) (t : Fin cfg0.N) (h : ¬t.val % 11 = 0) (h' : t.val % 11 = 10) :
    nrmd m c t = outH m c t h h' (prev m c t) := dif_pos h'

/-! ## The kernel's semaphore and the residual's buffer -/

abbrev osem : Fin 1 → SemLoc sig := fun j => (![SemLoc.dma 11] : Fin 1 → SemLoc sig) j

theorem osem_own : Pipeline.OwnSemFacts spec0 osem := by decide

def HX : Finset (Ref sig .tc) := {main_v1}

theorem HX_sub : HX ⊆ Pipeline.restRefs sig spec0 := by decide

theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 11) 0) := by
  rw [Pipeline.ownSems0_eq_of_list c osem [0] (by decide) (by decide)]; rfl

theorem HX_eq (c : Dev nD) :
    (bigSep HX (fun b => ((c : Thread nD τ).loc b) ↦{fullShare} V m c b) : sProp 𝕄) = iprop(resPt c (V m c main_v1)) := by
  rw [BI.bigSep_eq_bigSepL_of_eq [main_v1] (by decide) (by decide)]; rfl

/-- What every point finds and leaves beside the buffers: no scratch, the generator, the semaphore at zero, the residual. -/
theorem inv_eq (c : Dev nD) : (Pipeline.ΦD osem spec0 HX (V m) c : sProp 𝕄)
    = iprop(BI.emp ∗ (∃ r, prngReg c r) ∗ iprop(semVal ((c : Thread nD τ), SemLoc.dma 11) 0) ∗ iprop(resPt c (V m c main_v1))) := by
  rw [Pipeline.ΦD_eq, scopedRest0_eq, osem_eq, HX_eq]

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => acc m c t.val t.isLt
    | ⟨6, _⟩ => nrmd m c t
  Φ _ := Pipeline.ΦD osem spec0 HX (V m) c
  q w := Pipeline.shareOf spec0 w
  owed _ := 0

theorem A_eq (c : Dev nD) (w : Fin cfg0.W) : (dats m 0 c).A w = V m c (Pipeline.arrRef spec0 w) := by dsimp only [dats]

theorem after5 (c : Dev nD) (t : Fin cfg0.N) : (dats m 0 c).after 5 t = acc m c t.val t.isLt := by dsimp only [dats]
theorem after6 (c : Dev nD) (t : Fin cfg0.N) : (dats m 0 c).after 6 t = nrmd m c t := by dsimp only [dats]

theorem after0 (c : Dev nD) (t : Fin cfg0.N) : (dats m 0 c).after 0 t = iblk m c 0 t := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)

theorem after1 (c : Dev nD) (t : Fin cfg0.N) : (dats m 0 c).after 1 t = iblk m c 1 t := by dsimp only [dats]

theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)

theorem after2 (c : Dev nD) (t : Fin cfg0.N) : (dats m 0 c).after 2 t = iblk m c 2 t := by dsimp only [dats]

theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans (by unfold Dat.fetched Dat.blockOf iblk; rw [A_eq]; rfl)

theorem after3 (c : Dev nD) (t : Fin cfg0.N) : (dats m 0 c).after 3 t = iblk m c 3 t := by dsimp only [dats]

theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]) t d).trans (by unfold Dat.fetched Dat.blockOf iblk; rw [A_eq]; rfl)

theorem after4 (c : Dev nD) (t : Fin cfg0.N) : (dats m 0 c).after 4 t = iblk m c 4 t := by dsimp only [dats]

theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]) t d).trans (by unfold Dat.fetched Dat.blockOf iblk; rw [A_eq]; rfl)

/-- Inside a run the first result's buffer holds what the point before left. -/
theorem before5 (c : Dev nD) (t : Fin cfg0.N) (h : ¬t.val % 11 = 0) (d) : (dats m 0 c).before 5 t d = prev m c t := by
  rw [Dat.before_out_kept _ 5 rfl t (by omega)
    (Bool.eq_false_iff.mpr fun e => by have := (flush0_5 _).mp e; dsimp only at this; omega) (fun _ => rfl) (fun _ _ => rfl)]
  dsimp only [dats]

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) :
    (dats m 0 c).leavesExact 0 t = owns (c : Thread nD τ) (st0_0 t) fullShare (iblk m c 0 t) := by
  unfold Dat.leavesExact
  rw [show cfg0.idle 0 (cfg0.grid.coords t) = false from rfl, after0]

theorem leaves1 (c : Dev nD) (t : Fin cfg0.N) :
    (dats m 0 c).leavesExact 1 t = owns (c : Thread nD τ) (st0_1 t) fullShare (iblk m c 1 t) := by
  unfold Dat.leavesExact
  rw [show cfg0.idle 1 (cfg0.grid.coords t) = false from rfl, after1]

theorem leaves2 (c : Dev nD) (t : Fin cfg0.N) :
    (dats m 0 c).leavesExact 2 t = owns (c : Thread nD τ) (st0_2 t) fullShare (iblk m c 2 t) := by
  unfold Dat.leavesExact
  rw [show cfg0.idle 2 (cfg0.grid.coords t) = false from rfl, after2]

theorem leaves3 (c : Dev nD) (t : Fin cfg0.N) :
    (dats m 0 c).leavesExact 3 t = owns (c : Thread nD τ) (st0_3 t) fullShare (iblk m c 3 t) := by
  unfold Dat.leavesExact
  rw [show cfg0.idle 3 (cfg0.grid.coords t) = false from rfl, after3]

theorem leaves4 (c : Dev nD) (t : Fin cfg0.N) :
    (dats m 0 c).leavesExact 4 t = owns (c : Thread nD τ) (st0_4 t) fullShare (iblk m c 4 t) := by
  unfold Dat.leavesExact
  rw [show cfg0.idle 4 (cfg0.grid.coords t) = false from rfl, after4]

theorem leaves5 (c : Dev nD) (t : Fin cfg0.N) :
    (dats m 0 c).leavesExact 5 t = owns (c : Thread nD τ) (st0_5 t) fullShare (acc m c t.val t.isLt) := by
  unfold Dat.leavesExact
  rw [show cfg0.idle 5 (cfg0.grid.coords t) = false from rfl, after5]

theorem leaves6 (c : Dev nD) (t : Fin cfg0.N) (h' : t.val % 11 = 10) :
    (dats m 0 c).leavesExact 6 t = owns (c : Thread nD τ) (st0_6 t) fullShare (nrmd m c t) := by
  unfold Dat.leavesExact
  rw [live6 t h', after6]

set_option maxHeartbeats 4800000 in
theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, leaves0, leaves1, leaves2, leaves3, leaves4, leaves5]
  rw [show (dats m 0 c).Φ t.castSucc = Pipeline.ΦD osem spec0 HX (V m) c from rfl,
    show (dats m 0 c).Φ t.succ = Pipeline.ΦD osem spec0 HX (V m) c from rfl, inv_eq]
  unfold Dat.owesAt Pipeline.owesWithin
  rw [show (dats m 0 c).owed t.castSucc = 0 from rfl, show (dats m 0 c).owed t.succ = 0 from rfl]
  by_cases h : t.val % 11 = 0
  · have h1 : ¬t.val % 11 = 10 := by omega
    rw [Dat.leavesExact_idle (dats m 0 c) 6 t (idle6 t h1) (kept6 t h1), acc_A m c t h]
    iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((atA m c t h).2 _ W _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [Hq]; · iexact Hq
    isplitl [Hh]; · iexact Hh
    isplitl [HW]; · iexact HW
    iintro ⟨H0, H1, H2, H3, H4, ⟨%e5, H5⟩, H6, Hq, Hh, ⟨%W', HW'⟩⟩
    isplitl [He Hg Hq Hh]
    · isplitl [He]; · iexact He
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]
    · unfold owns outA; iexists _; isplitr
      swap; · iexact H5
      ipureintro; exact View.read_writes_of_cover _ _ _ _ _ (coverA m c t h)
    iexists _; iexact H6
  · by_cases h' : t.val % 11 = 10
    · rw [leaves6 m c t h', acc_C m c t h h', nrmd_C m c t h h']
      simp only [before5 m c t h]
      iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((atC m c t h h' (prev m c t)).2.2 W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [Hq]; · iexact Hq
      isplitl [Hh]; · iexact Hh
      isplitl [HW]; · iexact HW
      iintro ⟨H0, H1, H2, H3, H4, ⟨%e5, H5⟩, ⟨%e6, H6⟩, Hq, Hh, ⟨%W', HW'⟩⟩
      isplitl [He Hg Hq Hh]
      · isplitl [He]; · iexact He
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns outC; iexists _; isplitr
        swap; · iexact H5
        ipureintro; exact View.read_writes_of_cover _ _ _ _ _ (coverC m c t h h' _)
      unfold owns outH; iexists _; isplitr
      swap; · iexact H6
      ipureintro; exact View.read_writes_of_cover _ _ _ _ _ (coverH m c t h h' _)
    · rw [Dat.leavesExact_idle (dats m 0 c) 6 t (idle6 t h') (kept6 t h'), acc_B m c t h h']
      simp only [before5 m c t h]
      iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((atB m c t h h' (prev m c t)).2 _ W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hq]; · iexact Hq
      isplitl [Hh]; · iexact Hh
      isplitl [HW]; · iexact HW
      iintro ⟨H0, H1, H2, H3, H4, ⟨%e5, H5⟩, H6, Hq, Hh, ⟨%W', HW'⟩⟩
      isplitl [He Hg Hq Hh]
      · isplitl [He]; · iexact He
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns outB; iexists _; isplitr
        swap; · iexact H5
        ipureintro; exact View.read_writes_of_cover _ _ _ _ _ (coverB m c t h h' _)
      iexists _; iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

/-! ## The run -/

theorem entry (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem launch : θ_run defs (onTc (τ := τ) (main (F := F))) (s₀ m ρ)
    (fun r => (Pipeline.FramePost cfgs (dats m) 0 (V m)) r ∧ r.2.sem = fun _ => 0) :=
  Pipeline.θ_run_frame_dma_shared (Q' := _) cfgs (dats m) (0 : Fin 1) launch₀0 osem defs₀ Variants.none osem_own HX HX_sub m ρ main
    (hbody := fun c => (obligation m c).loose) (hq := fun _ _ _ => rfl)
    (howed := fun _ _ => rfl) (V := V m) (hmain := entry m Variants.none) (hA := A_eq m)
    (hin := fun _ => .rfl) (hout := fun _ => .rfl)

/-- The whole run: both results at what the points leave, the arguments as launched, every counter at zero. -/
theorem run : θ_run defs (onTc (τ := τ) (main (F := F))) ⟨m, fun _ => 0, ρ⟩ (fun r => (∀ c : Dev nD,
      r.2.mem ((c.tc : Thread nD τ).loc main_v5_0) = (dats m 0 c).arrAt 5 cfg0.N
      ∧ r.2.mem ((c.tc : Thread nD τ).loc main_v5_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5, (h.1 c).1 6,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).2 main_arg4 (Pipeline.mem_restRefs_of main_arg4 (by decide) (by decide))).trans (V_main_arg4 m c)⟩, h.2⟩) (launch m ρ)

end Cert.Kernel8Ideal.FeedX

end
-- ==== Proof.FeedX.lean ====
/- The feed-forward that returns the residual too, at the exact reals: after the run its two output arrays are the
   reference's two results. -/
module

public import proofs.«01_k».proof.Proof.Feed
public import proofs.«01_k».proof.Proof.FeedXFrame
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel8Ideal.FeedX

open Idealize.ShloMosaic Idealize.ShloMosaic.TcCoe Idealize.SL.Sem
open Idealize.ShloMosaic.Pipeline (Dat)
open Cert.Kernel8Ideal Cert.Kernel8Ideal.Gen
open scoped BigOperators

variable (m : (ℓ : Loc nD τ sig) → Buf (Elt Ideal) ℓ)

/-- The windows' block indices, and where the residual's rows are read. -/
theorem idx : ∀ t : Fin cfg0.N, win0_0.index t = ![t.val / 11, 0] ∧ win0_1.index t = ![0, 0]
    ∧ win0_2.index t = ![0, 0, t.val % 11] ∧ win0_3.index t = ![0, 0, 11 + t.val % 11]
    ∧ win0_4.index t = ![0, t.val % 11, 0] ∧ win0_5.index t = ![t.val / 11, 0] ∧ win0_6.index t = ![t.val / 11, 0] :=
  (by decide +kernel : ∀ t : Fin grid0.N, _)

theorem off1 : ∀ t : Fin cfg0.N, k0_off1 (grid0.coords t) = ![t.val / 11 * 1024, 0] :=
  (by decide +kernel : ∀ t : Fin grid0.N, _)

/-- The residual's rows at an index. -/
theorem rows_at (c : Dev nD) (i : S8192x2048.Idx) : V m c main_v1 i
    = m ((c : Thread nD τ).loc main_arg1) (ix3 ⟨i 0 / 2048, by have : (i 0).val < 8192 := (i 0).isLt; omega⟩ ⟨i 0 % 2048, by omega⟩ (i 1)) := by
  entry_read
  idx_vars i
  pointwise

/-- The accumulating step. -/
theorem pay1_at (acc h wg wu wo) (j : S1024x2048.Idx) : k0_pay1 (F := Ideal) (k0_pay3 acc) (k0_pay4 wo) (k0_pay5 h wg wu) j
    = acc j + ∑ k : Fin 512, k0_pay5 h wg wu (ix2 (j 0) k) * wo (ix3 0 k (j 1)) := by
  pointwise [k0_pay1, k0_pay3, k0_pay4]

/-- The half gated unit of a block of columns. -/
theorem pay5_at (h wg wu) (j : S1024x512.Idx) : k0_pay5 (F := Ideal) h wg wu j
    = Cert.Layer.hswi (∑ k : Fin 2048, h (ix2 (j 0) k) * wg (ix3 0 k (j 1))) (∑ k : Fin 2048, h (ix2 (j 0) k) * wu (ix3 0 k (j 1))) := by
  pointwise [k0_pay5]
  exact Cert.Layer.hswi_eq _ _

/-- The norm of the finished rows. -/
theorem pay2_at (x g) (r : Fin 1024) (q : Fin 2048) : k0_pay2 (F := Ideal) x g (ix2 r q)
    = Cert.Layer.nrm (fun k => x (ix2 r k)) (g (ix2 0 q)) q := by
  pointwise [k0_pay2]
  rfl

/-- What point `t` adds at an index. -/
def part (c : Dev nD) (t : Fin cfg0.N) (j : S1024x2048.Idx) : EReal :=
  ∑ k : Fin 512, k0_pay5 (F := Ideal) (iblk m c 0 t) (iblk m c 2 t) (iblk m c 3 t) (ix2 (j 0) k) * iblk m c 4 t (ix3 0 k (j 1))

/-- What the first point of a run starts from. -/
def base (c : Dev nD) (t : Fin cfg0.N) (j : S1024x2048.Idx) : EReal :=
  if t.val % 11 = 0 then V m c main_v1 (ix2 ⟨t.val / 11 * 1024 + (j 0).val, by
    have : (j 0).val < 1024 := (j 0).isLt
    have : t.val < 88 := t.isLt
    omega⟩ (j 1)) else 0

theorem reset (c : Dev nD) (t : Fin cfg0.N) (h : t.val % 11 = 0) (j) :
    acc m c t.val t.isLt j = 0 + (base m c t j + part m c t j) := by
  rw [acc_A m c t h]
  unfold outA atA runA
  frame_out
  rw [pay1_at, zero_add, Cert.Kernel2Ideal.Feed.readCov_whole _ _ _ (by funext a; fin_cases a <;> rfl)]
  congr 1
  unfold base
  rw [if_pos h]
  refine congrArg (V m c main_v1) (funext fun a => Fin.ext ?_)
  match a with
  | ⟨0, _⟩ =>
    show k0_off1 (grid0.coords t) 0 + 1 * (j 0).val = t.val / 11 * 1024 + (j 0).val
    rw [off1]; simp
  | ⟨1, _⟩ =>
    show k0_off1 (grid0.coords t) 1 + 1 * (j 1).val = (j 1).val
    rw [off1]; simp

theorem step (c : Dev nD) (t : Fin cfg0.N) (h : ¬ t.val % 11 = 0) (j) :
    acc m c t.val t.isLt j = prev m c t j
      + (base m c t j + part m c t j) := by
  have hb : base m c t j = 0 := if_neg h
  rw [hb, zero_add]
  by_cases h' : t.val % 11 = 10
  · rw [acc_C m c t h h']
    unfold outC atC runC
    frame_out
    rw [pay1_at]
    rfl
  · rw [acc_B m c t h h']
    unfold outB atB runB
    frame_out
    rw [pay1_at]
    rfl

/-- At a run's last point the second result's buffer gets the norm of the finished rows. -/
theorem normed (c : Dev nD) (t : Fin cfg0.N) (h : ¬ t.val % 11 = 0) (h' : t.val % 11 = 10) :
    nrmd m c t = k0_pay2 (acc m c t.val t.isLt) (iblk m c 1 t) := by
  rw [nrmd_C m c t h h', acc_C m c t h h']
  unfold outH outC atC runC
  frame_out

/-- The reference's sum before the norm, at an index. -/
theorem ref13 (h : FVec Ideal S4x2048x2048 .bf16) (x : FVec Ideal S4x2048x2048 .f32) (wi : FVec Ideal S2x2048x11264 .f32)
    (wo : FVec Ideal S2x5632x2048 .f32) (i : S4x2048x2048.Idx) : Cert.Reference8Ideal.Read.val_main_v13 (F := Ideal) h x wi wo i
    = x i + ∑ l : Fin 5632, Cert.Layer.hswi (∑ k : Fin 2048, h (ix3 (i 0) (i 1) k) * wi (ix3 0 k ⟨l.val, by omega⟩))
        (∑ k : Fin 2048, h (ix3 (i 0) (i 1) k) * wi (ix3 0 k ⟨5632 + l.val, by omega⟩)) * wo (ix3 0 l (i 2)) := by
  pointwise [Cert.Reference8Ideal.Read.val_main_v13, Cert.Reference8Ideal.Read.val_main_v12, Cert.Reference8Ideal.Read.val_main_v11, Cert.Reference8Ideal.Read.val_main_v10, Cert.Reference8Ideal.Read.val_main_v9, Cert.Reference8Ideal.Read.val_main_v8, Cert.Reference8Ideal.Read.val_main_call0_v5, Cert.Reference8Ideal.Read.val_main_call0_v4, Cert.Reference8Ideal.Read.val_main_call0_v3, Cert.Reference8Ideal.Read.val_main_call0_v2, Cert.Reference8Ideal.Read.val_main_call0_v1, Cert.Reference8Ideal.Read.val_main_call0_v0, Cert.Reference8Ideal.Read.val_main_call0_cst, Cert.Reference8Ideal.Read.val_main_call0_cst_0, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0, Cert.Reference8Ideal.Read.val_main_cst]
  congr 1
  rw [Cert.Layer.lit_half, Cert.Layer.half_sum]
  exact Fin.sum_fin_congr fun l => (mul_assoc _ _ _).symm

/-- A row of the reference's sum before the norm, and a place's row and column in it. -/
abbrev PRE (h : FVec Ideal S4x2048x2048 .bf16) (x : FVec Ideal S4x2048x2048 .f32) (wi : FVec Ideal S2x2048x11264 .f32)
    (wo : FVec Ideal S2x5632x2048 .f32) (r : Fin 8192) (q : Fin 2048) : EReal :=
  Cert.Reference8Ideal.Read.val_main_v13 (F := Ideal) h x wi wo
    (ix3 ⟨r.val / 2048, by omega⟩ ⟨r.val % 2048, by omega⟩ q)

/-- The reference's two results over the arguments: the sum, and its norm. -/
abbrev REFX (h : FVec Ideal S4x2048x2048 .bf16) (x : FVec Ideal S4x2048x2048 .f32) (wi : FVec Ideal S2x2048x11264 .f32)
    (wo : FVec Ideal S2x5632x2048 .f32) : FVec Ideal S8192x2048 .f32 :=
  Cert.Reference8Ideal.Read.val_main_v29 (F := Ideal) h x wi wo

abbrev REFH (h : FVec Ideal S4x2048x2048 .bf16) (x : FVec Ideal S4x2048x2048 .f32) (wi : FVec Ideal S2x2048x11264 .f32)
    (wo : FVec Ideal S2x5632x2048 .f32) (g : FVec Ideal S2x2048 .f32) : FVec Ideal S8192x2048 .bf16 :=
  Cert.Reference8Ideal.Read.val_main_v31 (F := Ideal) h x wi wo g

/-- The first result at an index. -/
theorem ref29 (h : FVec Ideal S4x2048x2048 .bf16) (x : FVec Ideal S4x2048x2048 .f32) (wi : FVec Ideal S2x2048x11264 .f32)
    (wo : FVec Ideal S2x5632x2048 .f32) (i : S8192x2048.Idx) :
    REFX h x wi wo i = PRE h x wi wo (i 0) (i 1) := by
  pointwise [REFX, PRE, Cert.Reference8Ideal.Read.val_main_v29]

/-- The second result at an index, over the sum before the norm. -/
theorem ref31 (h : FVec Ideal S4x2048x2048 .bf16) (x : FVec Ideal S4x2048x2048 .f32) (wi : FVec Ideal S2x2048x11264 .f32)
    (wo : FVec Ideal S2x5632x2048 .f32) (g : FVec Ideal S2x2048 .f32) (i : S8192x2048.Idx) :
    REFH h x wi wo g i = Cert.Layer.nrm (PRE h x wi wo (i 0)) (g (ix2 0 (i 1))) (i 1) := by
  pointwise [REFH, PRE, Cert.Reference8Ideal.Read.val_main_v31, Cert.Reference8Ideal.Read.val_main_v30, Cert.Reference8Ideal.Read.val_main_v28, Cert.Reference8Ideal.Read.val_main_v27, Cert.Reference8Ideal.Read.val_main_v26, Cert.Reference8Ideal.Read.val_main_v25, Cert.Reference8Ideal.Read.val_main_v24, Cert.Reference8Ideal.Read.val_main_v23, Cert.Reference8Ideal.Read.val_main_v22, Cert.Reference8Ideal.Read.val_main_v21, Cert.Reference8Ideal.Read.val_main_v20, Cert.Reference8Ideal.Read.val_main_v19, Cert.Reference8Ideal.Read.val_main_v18, Cert.Reference8Ideal.Read.val_main_v17, Cert.Reference8Ideal.Read.val_main_v16, Cert.Reference8Ideal.Read.val_main_v15, Cert.Reference8Ideal.Read.val_main_v14, Cert.Reference8Ideal.Read.val_main_cst_0, Cert.Reference8Ideal.Read.val_main_cst_1, Cert.Reference8Ideal.Read.val_main_cst_2]
  rfl

/-- The normalised activations and the norm's row, at an index. -/
theorem acts_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

theorem norm_at (c : Dev nD) (i : S1x2048.Idx) : V m c main_v4 i = m ((c : Thread nD τ).loc main_arg4) (ix2 0 (i 1)) := by
  entry_read
  idx_vars i
  pointwise

/-- The weights' blocks at an index. -/
theorem wg_at (c : Dev nD) (t : Fin cfg0.N) (k : Fin 2048) (l : Fin 512) : iblk m c 2 t (ix3 0 k l)
    = m ((c : Thread nD τ).loc main_arg2) (ix3 0 k ⟨t.val % 11 * 512 + l.val, by omega⟩) := by
  blk_point [iblk, V, idx t]

theorem wu_at (c : Dev nD) (t : Fin cfg0.N) (k : Fin 2048) (l : Fin 512) : iblk m c 3 t (ix3 0 k l)
    = m ((c : Thread nD τ).loc main_arg2) (ix3 0 k ⟨5632 + (t.val % 11 * 512 + l.val), by omega⟩) := by
  blk_point [iblk, V, idx t]

theorem wo_at (c : Dev nD) (t : Fin cfg0.N) (l : Fin 512) (q : Fin 2048) : iblk m c 4 t (ix3 0 l q)
    = m ((c : Thread nD τ).loc main_arg3) (ix3 0 ⟨t.val % 11 * 512 + l.val, by omega⟩ q) := by
  blk_point [iblk, V, idx t]

/-- The row of the whole array that row `r` of point `t`'s block is. -/
def rowAt (t : Fin cfg0.N) (r : Fin 1024) : Fin 8192 := ⟨t.val / 11 * 1024 + r.val, by
  have : t.val < 88 := t.isLt
  omega⟩

/-- The four arguments the sum before the norm reads. -/
abbrev PREm (c : Dev nD) (r : Fin 8192) (q : Fin 2048) : EReal :=
  PRE (m ((c : Thread nD τ).loc main_arg0)) (m ((c : Thread nD τ).loc main_arg1)) (m ((c : Thread nD τ).loc main_arg2))
    (m ((c : Thread nD τ).loc main_arg3)) r q

/-- At a run's last point the scratch holds the reference's sum before the norm. -/
theorem acc_at (c : Dev nD) (t : Fin cfg0.N) (h' : t.val % 11 = 10) (r : Fin 1024) (q : Fin 2048) :
    acc m c t.val t.isLt (ix2 r q) = PREm m c (rowAt t r) q := by
  refine (Pipeline.eq_sum_fin_of_reset_step_apply_of_flush (fun n hn => acc m c n hn) 11 (fun _ => (0 : EReal))
    (fun t j => base m c t j + part m c t j) (reset m c) (step m c) t h' (ix2 r q)).trans ?_
  refine Eq.trans ?_ (ref13 _ _ _ _ _).symm
  rw [zero_add]
  refine Finset.sum_add_distrib.trans ?_
  congr 1
  · refine (Fin.sum_univ_succ _).trans ((congrArg₂ (· + ·) ?_ (Finset.sum_eq_zero fun s _ => if_neg ?_)).trans (add_zero _))
    · unfold base
      rw [if_pos (by show (11 * (t.val / 11) + 0) % 11 = 0; omega)]
      refine (rows_at m c _).trans ?_
      refine congrArg (m ((c : Thread nD τ).loc main_arg1)) (funext fun a => Fin.ext ?_)
      have e : (11 * (t.val / 11) + 0) / 11 = t.val / 11 := by omega
      match a with
      | ⟨0, _⟩ =>
        show ((11 * (t.val / 11) + 0) / 11 * 1024 + r.val) / 2048 = (t.val / 11 * 1024 + r.val) / 2048
        rw [e]
      | ⟨1, _⟩ =>
        show ((11 * (t.val / 11) + 0) / 11 * 1024 + r.val) % 2048 = (t.val / 11 * 1024 + r.val) % 2048
        rw [e]
      | ⟨2, _⟩ => rfl
    · show ¬(11 * (t.val / 11) + (s.val + 1)) % 11 = 0
      have := s.isLt
      omega
  · unfold part
    refine Fin.sum_mul_add_congr fun s k hl => ?_
    rw [pay5_at]
    reads_congr
    · refine (acts_at m c _).trans ?_
      blk_ext [rowAt, idx ⟨_, Pipeline.run_point_lt_of_flush t h' s⟩]
    · refine (wg_at m c _ _ _).trans ?_
      refine congrArg (m ((c : Thread nD τ).loc main_arg2)) (congrArg (ix3 0 k) (Fin.ext ?_))
      simp [Nat.mul_add_mod, Nat.mod_eq_of_lt s.isLt]
    · refine (wu_at m c _ _ _).trans ?_
      refine congrArg (m ((c : Thread nD τ).loc main_arg2)) (congrArg (ix3 0 k) (Fin.ext ?_))
      simp [Nat.mul_add_mod, Nat.mod_eq_of_lt s.isLt]
    · refine (wo_at m c _ _ _).trans ?_
      refine congrArg (m ((c : Thread nD τ).loc main_arg3)) (congrArg (fun z => ix3 0 z q) (Fin.ext ?_))
      simp [Nat.mul_add_mod, Nat.mod_eq_of_lt s.isLt]

/-- What a run's last point leaves in the first result's buffer is the reference's sum at the place its element sits at. -/
theorem pointX (c : Dev nD) (t : Fin cfg0.N) (h' : t.val % 11 = 10) (y) : acc m c t.val t.isLt y
      = REFX (m ((c : Thread nD τ).loc main_arg0)) (m ((c : Thread nD τ).loc main_arg1)) (m ((c : Thread nD τ).loc main_arg2))
        (m ((c : Thread nD τ).loc main_arg3)) (((cfg0.win 5).blk t).view.emb y) := by
  idx_vars y
  have e0 : (((cfg0.win 5).blk t).view.emb (ix2 y0 y1) 0 : Fin 8192) = rowAt t y0 := by
    refine Fin.ext (((cfg0.win 5).rect_emb_val_off t (ix2 y0 y1) 0).trans ?_)
    show win0_5.index t 0 * 1024 + y0.val = t.val / 11 * 1024 + y0.val
    rw [(idx t).2.2.2.2.2.1]; rfl
  have e1 : (((cfg0.win 5).blk t).view.emb (ix2 y0 y1) 1 : Fin 2048) = y1 := by
    refine Fin.ext (((cfg0.win 5).rect_emb_val_off t (ix2 y0 y1) 1).trans ?_)
    show win0_5.index t 1 * 2048 + y1.val = y1.val
    rw [(idx t).2.2.2.2.2.1]; simp
  refine (acc_at m c t h' y0 y1).trans (Eq.trans ?_ (ref29 _ _ _ _ _).symm)
  rw [e0, e1]

/-- What it stores in the second is the reference's normed sum there. -/
theorem pointH (c : Dev nD) (t : Fin cfg0.N) (h' : t.val % 11 = 10) (y) :
    k0_pay2 (F := Ideal) (acc m c t.val t.isLt) (iblk m c 1 t) y
      = REFH (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  idx_vars y
  have e0 : (((cfg0.win 6).blk t).view.emb (ix2 y0 y1) 0 : Fin 8192) = rowAt t y0 := by
    refine Fin.ext (((cfg0.win 6).rect_emb_val_off t (ix2 y0 y1) 0).trans ?_)
    show win0_6.index t 0 * 1024 + y0.val = t.val / 11 * 1024 + y0.val
    rw [(idx t).2.2.2.2.2.2]; rfl
  have e1 : (((cfg0.win 6).blk t).view.emb (ix2 y0 y1) 1 : Fin 2048) = y1 := by
    refine Fin.ext (((cfg0.win 6).rect_emb_val_off t (ix2 y0 y1) 1).trans ?_)
    show win0_6.index t 1 * 2048 + y1.val = y1.val
    rw [(idx t).2.2.2.2.2.2]; simp
  refine (pay2_at _ _ _ _).trans (Eq.trans ?_ (ref31 _ _ _ _ _ _).symm)
  rw [e0, e1]
  simp only [acc_at m c t h']
  refine congrArg (fun g => Cert.Layer.nrm _ g _) ((norm_at m c _).trans ?_)
  blk_ext [idx t]

/-- The two output arrays after the run. -/
theorem finalX (c : Dev nD) : (dats m 0 c).arrAt 5 cfg0.N
    = REFX (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have h' : t.val % 11 = 10 := (flush0_5 t).mp hf
  blk_simp
  rw [after5]
  exact pointX m c t h' y

theorem finalH (c : Dev nD) : (dats m 0 c).arrAt 6 cfg0.N
    = REFH (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h' : t.val % 11 = 10 := (flush0_6 t).mp hf
  blk_simp
  rw [after6, normed m c t (by omega) h']
  exact pointH m c t h' y

end Cert.Kernel8Ideal.FeedX

end
-- ==== Proof.Gates.lean ====
/- The gate projection, at the exact reals: after the run the output array is the reference's result. -/
module

public import proofs.«01_k».proof.Proof.Sigmoid
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Claim

@[expose] public section

set_option maxRecDepth 16384

noncomputable section

namespace Cert.KernelIdeal.Gates

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ)

/-- The windows' block indices; window 1's are ELEMENT offsets. -/
theorem idx : ∀ t : Fin cfg0.N, win0_0.index t = ![t.val / 8, 0]
    ∧ win0_1.index t = ![0, 10776 + 1024 * (t.val % 8), 0]
    ∧ win0_2.index t = ![t.val / 8, t.val % 8] :=
  (by decide +kernel : ∀ t : Fin grid0.N, _)

/-- The reference's result over the arguments. -/
abbrev REF (h : FVec Ideal S4x2048x2048 .bf16) (w : FVec Ideal S2x2048x18968 .f32) : FVec Ideal S8192x8192 .bf16 :=
  Cert.ReferenceIdeal.Read.val_main_v12 (F := Ideal) h w

/-- The region's first operand at an index: the activations, the row index split. -/
theorem rows_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

/-- The region's second operand at an index: the weights, transposed. -/
theorem cols_at (c : Dev nD) (i : S2x18968x2048.Idx) : V m c main_v1 i
    = m ((c : Thread nD τ).loc main_arg1) (ix3 (i 0) (i 2) (i 1)) := by
  entry_read
  idx_vars i
  pointwise

/-- The place of an element of the weights' block, an element window: the offset plus its own coordinate. -/
theorem place (t : Fin cfg0.N) (y : ((cfg0.win 1).xblock (cfg0.grid.coords t)).Idx) :
    (((cfg0.win 1).blk t).view.emb y 0 : ℕ) = y 0 ∧ (((cfg0.win 1).blk t).view.emb y 1 : ℕ) = 10776 + 1024 * (t.val % 8) + y 1
      ∧ (((cfg0.win 1).blk t).view.emb y 2 : ℕ) = y 2 := by
  refine ⟨?_, ?_, ?_⟩ <;> refine ((cfg0.win 1).rect_emb_val_off t y _).trans ?_
  all_goals
    show win0_1.index t _ + _ = _
    rw [(idx t).2.1]
  all_goals simp

/-- The weights' block at an index. -/
theorem w_at (c : Dev nD) (t : Fin cfg0.N) (r : Fin 1024) (k : Fin 2048) : iblk m c 1 t (ix3 0 r k)
    = m ((c : Thread nD τ).loc main_arg1) (ix3 0 k ⟨10776 + 1024 * (t.val % 8) + r.val, by omega⟩) := by
  obtain ⟨e0, e1, e2⟩ := place t (ix3 0 r k)
  refine (cols_at m c _).trans (congrArg (m ((c : Thread nD τ).loc main_arg1)) (funext fun a => Fin.ext ?_))
  match a with
  | ⟨0, _⟩ => exact e0
  | ⟨1, _⟩ => exact e2
  | ⟨2, _⟩ => exact e1

/-- What a point stores is the reference at the place its block element sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, Cert.ReferenceIdeal.Read.val_main_v12, Cert.ReferenceIdeal.Read.val_main_v11,
    Cert.ReferenceIdeal.Read.val_main_v10, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_v3, Cert.ReferenceIdeal.Read.val_main_v2,
    Cert.ReferenceIdeal.Read.val_main_v1, Cert.ReferenceIdeal.Read.val_main_v0, Cert.ReferenceIdeal.Read.val_main_cst,
    Cert.ReferenceIdeal.Read.val_main_cst_0]
  simp only [Cert.Layer.lit_half]
  refine (Cert.Layer.sigmoid_eq _).trans ?_
  reads_congr
  · refine (rows_at m c _).trans ?_
    blk_ext [idx t]
  · refine (w_at m c t (y 1) _).trans ?_
    blk_ext [idx t]

/-- The output array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.KernelIdeal.Gates

end
-- ==== Proof.Cd.lean ====
/- The projection's columns 4624..10768, at the exact reals: after the run the output array is the reference's result. -/
module

public import Idealize.ShloMosaic.Lib.Pipeline.ReadBack
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.Kernel3Ideal.Proj

open Idealize.ShloMosaic Idealize.ShloMosaic.TcCoe Idealize.SL.Sem
open Idealize.ShloMosaic.Pipeline (Dat)
open Cert.Kernel3Ideal Cert.Kernel3Ideal.Gen
open scoped BigOperators

variable (m : (ℓ : Loc nD τ sig) → Buf (Elt Ideal) ℓ)

/-- The windows' block indices; window 1's are ELEMENT offsets. -/
theorem idx : ∀ t : Fin cfg0.N, win0_0.index t = ![t.val / 6, 0]
    ∧ win0_1.index t = ![0, 4624 + 1024 * (t.val % 6), 0]
    ∧ win0_2.index t = ![t.val / 6, t.val % 6] :=
  (by decide +kernel : ∀ t : Fin grid0.N, _)

/-- The reference's result over the arguments. -/
abbrev REF (h : FVec Ideal S4x2048x2048 .bf16) (w : FVec Ideal S2x2048x18968 .f32) : FVec Ideal S8192x6144 .bf16 :=
  Cert.Reference3Ideal.Read.val_main_v6 (F := Ideal) h w

/-- The region's first operand at an index: the activations, the row index split. -/
theorem rows_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

/-- The region's second operand at an index: the weights, transposed. -/
theorem cols_at (c : Dev nD) (i : S2x18968x2048.Idx) : V m c main_v1 i
    = m ((c : Thread nD τ).loc main_arg1) (ix3 (i 0) (i 2) (i 1)) := by
  entry_read
  idx_vars i
  pointwise

/-- The place of an element of the weights' block, an element window: the offset plus its own coordinate. -/
theorem place (t : Fin cfg0.N) (y : ((cfg0.win 1).xblock (cfg0.grid.coords t)).Idx) :
    (((cfg0.win 1).blk t).view.emb y 0 : ℕ) = y 0 ∧ (((cfg0.win 1).blk t).view.emb y 1 : ℕ) = 4624 + 1024 * (t.val % 6) + y 1
      ∧ (((cfg0.win 1).blk t).view.emb y 2 : ℕ) = y 2 := by
  refine ⟨?_, ?_, ?_⟩ <;> refine ((cfg0.win 1).rect_emb_val_off t y _).trans ?_
  all_goals
    show win0_1.index t _ + _ = _
    rw [(idx t).2.1]
  all_goals simp

/-- The weights' block at an index. -/
theorem w_at (c : Dev nD) (t : Fin cfg0.N) (r : Fin 1024) (k : Fin 2048) : iblk m c 1 t (ix3 0 r k)
    = m ((c : Thread nD τ).loc main_arg1) (ix3 0 k ⟨4624 + 1024 * (t.val % 6) + r.val, by omega⟩) := by
  obtain ⟨e0, e1, e2⟩ := place t (ix3 0 r k)
  refine (cols_at m c _).trans (congrArg (m ((c : Thread nD τ).loc main_arg1)) (funext fun a => Fin.ext ?_))
  match a with
  | ⟨0, _⟩ => exact e0
  | ⟨1, _⟩ => exact e2
  | ⟨2, _⟩ => exact e1

/-- What a point stores is the reference at the place its block element sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0]
  reads_congr
  · refine (rows_at m c _).trans ?_
    blk_ext [idx t]
  · refine (w_at m c t (y 1) _).trans ?_
    blk_ext [idx t]

/-- The output array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Kernel3Ideal.Proj

end
-- ==== Proof.Ab.lean ====
/- The projection's columns 0..4608, at the exact reals: after the run the output array is the reference's result. -/
module

public import Idealize.ShloMosaic.Lib.Pipeline.ReadBack
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.Kernel4Ideal.Proj

open Idealize.ShloMosaic Idealize.ShloMosaic.TcCoe Idealize.SL.Sem
open Idealize.ShloMosaic.Pipeline (Dat)
open Cert.Kernel4Ideal Cert.Kernel4Ideal.Gen
open scoped BigOperators

variable (m : (ℓ : Loc nD τ sig) → Buf (Elt Ideal) ℓ)

/-- The windows' block indices; window 1's are ELEMENT offsets. -/
theorem idx : ∀ t : Fin cfg0.N, win0_0.index t = ![t.val / 6, 0]
    ∧ win0_1.index t = ![0, 768 * (t.val % 6), 0]
    ∧ win0_2.index t = ![t.val / 6, t.val % 6] :=
  (by decide +kernel : ∀ t : Fin grid0.N, _)

/-- The reference's result over the arguments. -/
abbrev REF (h : FVec Ideal S4x2048x2048 .bf16) (w : FVec Ideal S2x2048x18968 .f32) : FVec Ideal S8192x4608 .bf16 :=
  Cert.Reference4Ideal.Read.val_main_v6 (F := Ideal) h w

/-- The region's first operand at an index: the activations, the row index split. -/
theorem rows_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

/-- The region's second operand at an index: the weights, transposed. -/
theorem cols_at (c : Dev nD) (i : S2x18968x2048.Idx) : V m c main_v1 i
    = m ((c : Thread nD τ).loc main_arg1) (ix3 (i 0) (i 2) (i 1)) := by
  entry_read
  idx_vars i
  pointwise

/-- The place of an element of the weights' block, an element window: the offset plus its own coordinate. -/
theorem place (t : Fin cfg0.N) (y : ((cfg0.win 1).xblock (cfg0.grid.coords t)).Idx) :
    (((cfg0.win 1).blk t).view.emb y 0 : ℕ) = y 0 ∧ (((cfg0.win 1).blk t).view.emb y 1 : ℕ) = 768 * (t.val % 6) + y 1
      ∧ (((cfg0.win 1).blk t).view.emb y 2 : ℕ) = y 2 := by
  refine ⟨?_, ?_, ?_⟩ <;> refine ((cfg0.win 1).rect_emb_val_off t y _).trans ?_
  all_goals
    show win0_1.index t _ + _ = _
    rw [(idx t).2.1]
  all_goals simp

/-- The weights' block at an index. -/
theorem w_at (c : Dev nD) (t : Fin cfg0.N) (r : Fin 768) (k : Fin 2048) : iblk m c 1 t (ix3 0 r k)
    = m ((c : Thread nD τ).loc main_arg1) (ix3 0 k ⟨768 * (t.val % 6) + r.val, by omega⟩) := by
  obtain ⟨e0, e1, e2⟩ := place t (ix3 0 r k)
  refine (cols_at m c _).trans (congrArg (m ((c : Thread nD τ).loc main_arg1)) (funext fun a => Fin.ext ?_))
  match a with
  | ⟨0, _⟩ => exact e0
  | ⟨1, _⟩ => exact e2
  | ⟨2, _⟩ => exact e1

/-- What a point stores is the reference at the place its block element sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, Cert.Reference4Ideal.Read.val_main_v6, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0]
  reads_congr
  · refine (rows_at m c _).trans ?_
    blk_ext [idx t]
  · refine (w_at m c t (y 1) _).trans ?_
    blk_ext [idx t]

/-- The output array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Kernel4Ideal.Proj

end
-- ==== Proof.Merge.lean ====
/- The merge of the four branches, at the exact reals: after the run the output array is the reference's result. -/
module

public import Idealize.ShloMosaic.Lib.Pipeline.ReadBack
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Kernel5Ideal.Merge

open Idealize.ShloMosaic Idealize.ShloMosaic.TcCoe Idealize.SL.Sem
open Idealize.ShloMosaic.Pipeline (Dat)
open Cert.Kernel5Ideal Cert.Kernel5Ideal.Gen
open scoped BigOperators

variable (m : (ℓ : Loc nD τ sig) → Buf (Elt Ideal) ℓ)

/-- The windows' block indices. -/
theorem idx : ∀ t : Fin cfg0.N, win0_0.index t = ![t.val / 4, 0] ∧ win0_1.index t = ![t.val / 4, 0]
    ∧ win0_2.index t = ![t.val / 4, 0] ∧ win0_3.index t = ![t.val / 4, 0]
    ∧ win0_4.index t = ![t.val / 4, t.val % 4] ∧ win0_5.index t = ![t.val / 4, 4 + t.val % 4]
    ∧ win0_6.index t = ![t.val / 4, 8 + t.val % 4] ∧ win0_7.index t = ![t.val / 4, 12 + t.val % 4]
    ∧ win0_8.index t = ![0, 0, 0, t.val % 4] ∧ win0_9.index t = ![t.val / 4, t.val % 4] :=
  (by decide +kernel : ∀ t : Fin grid0.N, _)

/-- The reference's result over the arguments. -/
abbrev REF (a b e d : FVec Ideal S4x2048x1024 .bf16) (g : FVec Ideal S4x2048x8192 .bf16) (w : FVec Ideal S2x4x1024x2048 .f32) :
    FVec Ideal S8192x2048 .bf16 :=
  Cert.Reference5Ideal.Read.val_main_v29 (F := Ideal) a b e d g w

/-- The first branch at an index, the row index split. -/
theorem a_at (c : Dev nD) (i : S8192x1024.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

/-- The second branch at an index, the row index split. -/
theorem b_at (c : Dev nD) (i : S8192x1024.Idx) : V m c main_v1 i
    = m ((c : Thread nD τ).loc main_arg1) (ix3 ⟨i 0 / 2048, by have : (i 0).val < 8192 := (i 0).isLt; omega⟩ ⟨i 0 % 2048, by omega⟩ (i 1)) := by
  entry_read
  idx_vars i
  pointwise

/-- The third branch at an index, the row index split. -/
theorem c_at (c : Dev nD) (i : S8192x1024.Idx) : V m c main_v2 i
    = m ((c : Thread nD τ).loc main_arg2) (ix3 ⟨i 0 / 2048, by have : (i 0).val < 8192 := (i 0).isLt; omega⟩ ⟨i 0 % 2048, by omega⟩ (i 1)) := by
  entry_read
  idx_vars i
  pointwise

/-- The fourth branch at an index, the row index split. -/
theorem d_at (c : Dev nD) (i : S8192x1024.Idx) : V m c main_v3 i
    = m ((c : Thread nD τ).loc main_arg3) (ix3 ⟨i 0 / 2048, by have : (i 0).val < 8192 := (i 0).isLt; omega⟩ ⟨i 0 % 2048, by omega⟩ (i 1)) := by
  entry_read
  idx_vars i
  pointwise

/-- The gates at an index, the row index split. -/
theorem gates_at (c : Dev nD) (i : S8192x8192.Idx) : V m c main_v4 i
    = m ((c : Thread nD τ).loc main_arg4) (ix3 ⟨i 0 / 2048, by have : (i 0).val < 8192 := (i 0).isLt; omega⟩ ⟨i 0 % 2048, by omega⟩ (i 1)) := by
  entry_read
  idx_vars i
  pointwise

set_option maxHeartbeats 4000000 in
/-- What a point stores is the reference at the place its block element sits at. -/
theorem point (c : Dev nD) (t : Fin cfg0.N) (y) :
    out0_9 (iblk m c 0 t) (iblk m c 1 t) (iblk m c 2 t) (iblk m c 3 t) (iblk m c 4 t) (iblk m c 5 t) (iblk m c 6 t) (iblk m c 7 t) (iblk m c 8 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  frame_out
  pointwise [k0_pay1, k0_pay2, k0_pay3, REF, Cert.Reference5Ideal.Read.val_main_v29, Cert.Reference5Ideal.Read.val_main_v28, Cert.Reference5Ideal.Read.val_main_v27, Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0]
  reads_congr
  · refine (gates_at m c _).trans ?_
    blk_ext [idx t]
  · refine (a_at m c _).trans ?_
    blk_ext [idx t]
  · blk_point [iblk, V, idx t]
  · refine (gates_at m c _).trans ?_
    blk_ext [idx t]
  · refine (b_at m c _).trans ?_
    blk_ext [idx t]
  · blk_point [iblk, V, idx t]
  · refine (gates_at m c _).trans ?_
    blk_ext [idx t]
  · refine (c_at m c _).trans ?_
    blk_ext [idx t]
  · blk_point [iblk, V, idx t]
  · refine (gates_at m c _).trans ?_
    blk_ext [idx t]
  · refine (d_at m c _).trans ?_
    blk_ext [idx t]
  · blk_point [iblk, V, idx t]

/-- The output array after the run. -/
theorem final (c : Dev nD) : (dats m 0 c).arrAt 9 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  exact point m c t y

end Cert.Kernel5Ideal.Merge

end
-- ==== Proof.Out.lean ====
/- The output projection, its residual and the norm after it, at the exact reals: after the run the output array is the reference's result. -/
module

public import proofs.«01_k».proof.Proof.Sigmoid
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.Kernel6Ideal.Out

open Idealize.ShloMosaic Idealize.ShloMosaic.TcCoe Idealize.SL.Sem
open Idealize.ShloMosaic.Pipeline (Dat)
open Cert.Kernel6Ideal Cert.Kernel6Ideal.Gen
open scoped BigOperators

variable (m : (ℓ : Loc nD τ sig) → Buf (Elt Ideal) ℓ)

/-- The windows' block indices. -/
theorem idx : ∀ t : Fin cfg0.N, win0_0.index t = ![t.val, 0] ∧ win0_1.index t = ![t.val, 0]
    ∧ win0_2.index t = ![0, 0] ∧ win0_3.index t = ![0, 0, 0] ∧ win0_4.index t = ![t.val, 0] ∧ win0_5.index t = ![t.val, 0] :=
  (by decide +kernel : ∀ t : Fin grid0.N, _)

/-- The reference's two results over the arguments. -/
abbrev REFX (a : FVec Ideal S4x2048x2048 .bf16) (x : FVec Ideal S4x2048x2048 .f32) (w : FVec Ideal S2x2048x2048 .f32) :
    FVec Ideal S8192x2048 .f32 :=
  Cert.Reference6Ideal.Read.val_main_v20 (F := Ideal) a x w

abbrev REFH (a : FVec Ideal S4x2048x2048 .bf16) (x : FVec Ideal S4x2048x2048 .f32) (w : FVec Ideal S2x2048x2048 .f32)
    (g : FVec Ideal S2x2048 .f32) : FVec Ideal S8192x2048 .bf16 :=
  Cert.Reference6Ideal.Read.val_main_v22 (F := Ideal) a x w g

/-- The merged rows at an index, the row index split. -/
theorem rows_at (c : Dev nD) (i : S8192x2048.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

/-- The residual at an index, the row index split. -/
theorem res_at (c : Dev nD) (i : S8192x2048.Idx) : V m c main_v1 i
    = m ((c : Thread nD τ).loc main_arg1) (ix3 ⟨i 0 / 2048, by have : (i 0).val < 8192 := (i 0).isLt; omega⟩ ⟨i 0 % 2048, by omega⟩ (i 1)) := by
  entry_read
  idx_vars i
  pointwise

/-- The norm's row, layer 0's. -/
theorem norm_at (c : Dev nD) (i : S1x2048.Idx) : V m c main_v4 i = m ((c : Thread nD τ).loc main_arg3) (ix2 0 (i 1)) := by
  entry_read
  idx_vars i
  pointwise

theorem w_at (c : Dev nD) (t : Fin cfg0.N) (k q : Fin 2048) : iblk m c 3 t (ix3 0 k q)
    = m ((c : Thread nD τ).loc main_arg2) (ix3 0 k q) := by
  blk_point [iblk, V, idx t]

/-- The row of the whole array that row `r` of point `t`'s block is. -/
def row (t : Fin cfg0.N) (r : Fin 512) : Fin 8192 := ⟨t.val * 512 + r.val, by
  have : t.val < 16 := t.isLt
  omega⟩

/-- The sum before the norm, at a point. -/
theorem pay1_point (c : Dev nD) (t : Fin cfg0.N) (r : Fin 512) (q : Fin 2048) :
    k0_pay1 (iblk m c 1 t) (iblk m c 0 t) (iblk m c 3 t) (ix2 r q) = REFX (m ((c : Thread nD τ).loc main_arg0)) (m ((c : Thread nD τ).loc main_arg1)) (m ((c : Thread nD τ).loc main_arg2)) (ix2 (row t r) q) := by
  pointwise [k0_pay1, REFX, Cert.Reference6Ideal.Read.val_main_v20, Cert.Reference6Ideal.Read.val_main_v4, Cert.Reference6Ideal.Read.val_main_v3, Cert.Reference6Ideal.Read.val_main_v2, Cert.Reference6Ideal.Read.val_main_v1, Cert.Reference6Ideal.Read.val_main_v0]
  reads_congr
  · refine (res_at m c _).trans ?_
    blk_ext [row, idx t]
  · refine (rows_at m c _).trans ?_
    blk_ext [row, idx t]
  · exact w_at m c t _ _

/-- The norm at a point. -/
theorem pay2_at (x a w g) (r : Fin 512) (q : Fin 2048) : k0_pay2 (F := Ideal) x a w g (ix2 r q)
    = Cert.Layer.nrm (fun k => k0_pay1 (F := Ideal) x a w (ix2 r k)) (g (ix2 0 q)) q := by
  pointwise [k0_pay2]
  rfl

theorem refH (a : FVec Ideal S4x2048x2048 .bf16) (x : FVec Ideal S4x2048x2048 .f32) (w : FVec Ideal S2x2048x2048 .f32)
    (g : FVec Ideal S2x2048 .f32) (i : Fin 8192) (q : Fin 2048) : REFH a x w g (ix2 i q)
    = Cert.Layer.nrm (fun k => REFX a x w (ix2 i k)) (g (ix2 0 q)) q := by
  pointwise [REFH, REFX, Cert.Reference6Ideal.Read.val_main_v22, Cert.Reference6Ideal.Read.val_main_v21, Cert.Reference6Ideal.Read.val_main_v20, Cert.Reference6Ideal.Read.val_main_v19, Cert.Reference6Ideal.Read.val_main_v18, Cert.Reference6Ideal.Read.val_main_v17, Cert.Reference6Ideal.Read.val_main_v16, Cert.Reference6Ideal.Read.val_main_v15, Cert.Reference6Ideal.Read.val_main_v14, Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v5, Cert.Reference6Ideal.Read.val_main_cst, Cert.Reference6Ideal.Read.val_main_cst_0, Cert.Reference6Ideal.Read.val_main_cst_1]
  rfl

/-- Where a block element of each result sits. -/
theorem place4 (t : Fin cfg0.N) (r : Fin 512) (q : Fin 2048) : ((cfg0.win 4).blk t).view.emb (ix2 r q) = ix2 (row t r) q := by
  funext a
  refine Fin.ext (((cfg0.win 4).rect_emb_val_off t (ix2 r q) a).trans ?_)
  match a with
  | ⟨0, _⟩ =>
    show win0_4.index t 0 * 512 + r.val = t.val * 512 + r.val
    rw [(idx t).2.2.2.2.1]; rfl
  | ⟨1, _⟩ =>
    show win0_4.index t 1 * 2048 + q.val = q.val
    rw [(idx t).2.2.2.2.1]; simp

theorem place5 (t : Fin cfg0.N) (r : Fin 512) (q : Fin 2048) : ((cfg0.win 5).blk t).view.emb (ix2 r q) = ix2 (row t r) q := by
  funext a
  refine Fin.ext (((cfg0.win 5).rect_emb_val_off t (ix2 r q) a).trans ?_)
  match a with
  | ⟨0, _⟩ =>
    show win0_5.index t 0 * 512 + r.val = t.val * 512 + r.val
    rw [(idx t).2.2.2.2.2]; rfl
  | ⟨1, _⟩ =>
    show win0_5.index t 1 * 2048 + q.val = q.val
    rw [(idx t).2.2.2.2.2]; simp

theorem pointX (c : Dev nD) (t : Fin cfg0.N) (y : S512x2048.Idx) : k0_pay1 (iblk m c 1 t) (iblk m c 0 t) (iblk m c 3 t) y
    = REFX (m ((c : Thread nD τ).loc main_arg0)) (m ((c : Thread nD τ).loc main_arg1)) (m ((c : Thread nD τ).loc main_arg2)) (((cfg0.win 4).blk t).view.emb y) := by
  idx_vars y
  rw [place4]
  exact pay1_point m c t y0 y1

theorem pointH (c : Dev nD) (t : Fin cfg0.N) (y : S512x2048.Idx) :
    k0_pay2 (iblk m c 1 t) (iblk m c 0 t) (iblk m c 3 t) (iblk m c 2 t) y
    = REFH (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  rw [place5]
  refine (pay2_at _ _ _ _ _ _).trans (Eq.trans ?_ (refH _ _ _ _ _ _).symm)
  simp only [pay1_point m c t]
  refine congrArg (fun g => Cert.Layer.nrm _ g _) ((norm_at m c _).trans ?_)
  blk_ext [idx t]

/-- The first result's array after the run. -/
theorem finalX (c : Dev nD) : (dats m 0 c).arrAt 4 cfg0.N = REFX (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  exact pointX m c t y

/-- The second result's array after the run. -/
theorem finalH (c : Dev nD) : (dats m 0 c).arrAt 5 cfg0.N = REFH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  exact pointH m c t y

end Cert.Kernel6Ideal.Out

end
-- ==== Proof.Soft.lean ====
/- A row's softmax taken block by block, over the extended reals: the running maximum, sum and product against the whole row's. -/
module

public import proofs.«01_k».proof.Proof.Sigmoid
public import Idealize.ShloMosaic.PureOps.Ideal
public import Idealize.ShloMosaic.PureOps.Ideal.Laws

@[expose] public section

noncomputable section

namespace Cert.Layer

open Idealize.ShloMosaic
open scoped BigOperators

/-- The base change, as a number. -/
abbrev cl : EReal := (((Real.log 2)⁻¹ : ℝ) : EReal)

theorem log_two_pos : 0 < (Real.log 2)⁻¹ := inv_pos.mpr (Real.log_pos (by norm_num))

theorem cl_nonneg : 0 ≤ cl := EReal.coe_nonneg.mpr log_two_pos.le

theorem cl_mul_bot : cl * ⊥ = ⊥ := EReal.coe_mul_bot_of_pos log_two_pos

theorem cl_mul_top : cl * ⊤ = ⊤ := EReal.coe_mul_top_of_pos log_two_pos

theorem cl_add (a b : EReal) : cl * (a + b) = cl * a + cl * b :=
  EReal.left_distrib_of_nonneg_of_ne_top cl_nonneg (EReal.coe_ne_top _) a b

theorem cl_sub (a b : EReal) : cl * (a - b) = cl * a - cl * b := by
  rw [sub_eq_add_neg, cl_add, mul_neg, ← sub_eq_add_neg]

/-- The powers of two at the scaled argument are the exponentials. -/
theorem exp2_cl (x : EReal) : Ideal.exp2 (cl * x) = Ideal.exp x := by
  induction x using EReal.rec with
  | bot => rw [cl_mul_bot]; rfl
  | top => rw [cl_mul_top]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = Real.exp r
    rw [Real.rpow_def_of_pos (by norm_num), ← mul_assoc, mul_inv_cancel₀ (Real.log_pos (by norm_num)).ne', one_mul]

theorem exp2_cl_sub (a b : EReal) : Ideal.exp2 (cl * a - cl * b) = Ideal.exp (a - b) := by
  rw [← cl_sub, exp2_cl]

theorem cl_mono : Monotone (fun x : EReal => cl * x) := fun _ _ h => mul_le_mul_of_nonneg_left h cl_nonneg

theorem cl_max (a b : EReal) : max (cl * a) (cl * b) = cl * max a b := (cl_mono.map_max (a := a) (b := b)).symm

theorem cl_fold {n : ℕ} (u : Fin n → EReal) :
    (Finset.univ : Finset (Fin n)).fold max ⊥ (fun k => cl * u k) = cl * (Finset.univ : Finset (Fin n)).fold max ⊥ u := by
  have h := Finset.fold_hom (op := (max : EReal → EReal → EReal)) (op' := (max : EReal → EReal → EReal)) (m := fun x : EReal => cl * x)
    (fun a b => (cl_max a b).symm) (b := ⊥) (f := u) (s := (Finset.univ : Finset (Fin n)))
  rw [← h]; simp only [cl_mul_bot]

theorem exp_nonneg (x : EReal) : 0 ≤ Ideal.exp x := by
  induction x using EReal.rec with
  | bot => exact le_refl _
  | top => exact le_top
  | coe r => exact EReal.coe_nonneg.mpr (Real.exp_pos r).le

theorem exp_sub_ne_top {a b : EReal} (h : a ≤ b) : Ideal.exp (a - b) ≠ ⊤ := by
  induction a using EReal.rec with
  | bot => rw [EReal.bot_sub]; exact EReal.zero_ne_top
  | top => obtain rfl := top_le_iff.mp h; exact EReal.zero_ne_top
  | coe r =>
    induction b using EReal.rec with
    | bot => exact absurd h (by simp)
    | top => exact EReal.zero_ne_top
    | coe s => exact EReal.coe_ne_top _

/-- A term against an earlier maximum, moved to a later one. -/
theorem exp_move {x a b : EReal} (h : x ≤ a) (h' : a ≤ b) :
    Ideal.exp (a - b) * Ideal.exp (x - a) = Ideal.exp (x - b) := by
  induction b using EReal.rec with
  | bot =>
    obtain rfl := le_bot_iff.mp h'
    obtain rfl := le_bot_iff.mp h
    show (0 : EReal) * 0 = 0
    rw [zero_mul]
  | top =>
    have e : ∀ y : EReal, Ideal.exp (y - ⊤) = 0 := fun y => by rw [EReal.sub_top]; rfl
    rw [e, e, zero_mul]
  | coe s =>
    induction a using EReal.rec with
    | top => exact absurd h' (by simp)
    | bot =>
      obtain rfl := le_bot_iff.mp h
      rw [EReal.bot_sub]
      show (0 : EReal) * _ = 0
      rw [zero_mul]
    | coe r =>
      induction x using EReal.rec with
      | top => exact absurd h (by simp)
      | bot =>
        rw [EReal.bot_sub, EReal.bot_sub]
        show _ * (0 : EReal) = 0
        rw [mul_zero]
      | coe q =>
        show ((Real.exp (r - s) : ℝ) : EReal) * ((Real.exp (q - r) : ℝ) : EReal) = ((Real.exp (q - s) : ℝ) : EReal)
        rw [← EReal.coe_mul, ← Real.exp_add]
        congr 2
        ring

/-- A nonnegative finite factor goes into a sum. -/
theorem mul_sum_fin {ι : Type*} (s : Finset ι) {a : EReal} (h : 0 ≤ a) (h' : a ≠ ⊤) (f : ι → EReal) :
    a * ∑ k ∈ s, f k = ∑ k ∈ s, a * f k := by
  classical
  induction s using Finset.induction_on with
  | empty => simp
  | insert i s hi ih =>
    rw [Finset.sum_insert hi, Finset.sum_insert hi, EReal.left_distrib_of_nonneg_of_ne_top h h', ih]

/-! ## The row after some blocks of it -/

/-- The maximum of a row's first entries. -/
def top (u : ℕ → EReal) (n : ℕ) : EReal := (Finset.range n).fold max ⊥ u

theorem top_le {u : ℕ → EReal} {n : ℕ} {b : EReal} : top u n ≤ b ↔ ∀ k < n, u k ≤ b := by
  unfold top
  rw [Finset.fold_max_le]
  simp

theorem le_top_of {u : ℕ → EReal} {n k : ℕ} (h : k < n) : u k ≤ top u n := top_le.mp le_rfl k h

theorem top_add (u : ℕ → EReal) (n b : ℕ) :
    top u (n + b) = max (top u n) ((Finset.univ : Finset (Fin b)).fold max ⊥ fun k => u (n + k.val)) := by
  refine le_antisymm (top_le.mpr fun k hk => ?_) (max_le (top_le.mpr fun k hk => le_top_of (by omega)) ?_)
  · by_cases h : k < n
    · exact le_max_of_le_left (le_top_of h)
    · refine le_max_of_le_right ?_
      have := (Finset.fold_max_le (f := fun k : Fin b => u (n + k.val)) (b := ⊥) (s := Finset.univ) _).mp le_rfl
      have := this.2 ⟨k - n, by omega⟩ (Finset.mem_univ _)
      simpa [Nat.add_sub_cancel' (Nat.le_of_not_lt h)] using this
  · rw [Finset.fold_max_le]
    exact ⟨bot_le, fun k _ => le_top_of (by omega)⟩

/-- The row's weights' sum, and their product with a column, over the first entries. -/
def den (u : ℕ → EReal) (n : ℕ) : EReal := ∑ k ∈ Finset.range n, Ideal.exp (u k - top u n)

def num (u w : ℕ → EReal) (n : ℕ) : EReal := ∑ k ∈ Finset.range n, Ideal.exp (u k - top u n) * w k

theorem num_add (u w : ℕ → EReal) (n b : ℕ) : Ideal.exp (top u n - top u (n + b)) * num u w n
    + ∑ k : Fin b, Ideal.exp (u (n + k.val) - top u (n + b)) * w (n + k.val) = num u w (n + b) := by
  have hle : top u n ≤ top u (n + b) := top_le.mpr fun k hk => le_top_of (by omega)
  unfold num
  rw [mul_sum_fin _ (exp_nonneg _) (exp_sub_ne_top hle), Finset.sum_range_add]
  refine congrArg₂ (· + ·) (Finset.sum_congr rfl fun k hk => ?_)
    (Finset.sum_range fun k => Ideal.exp (u (n + k) - top u (n + b)) * w (n + k)).symm
  rw [← mul_assoc, exp_move (le_top_of (Finset.mem_range.mp hk)) hle]

theorem den_eq_num (u : ℕ → EReal) (n : ℕ) : den u n = num u (fun _ => 1) n := by
  unfold den num
  simp only [mul_one]

theorem den_add (u : ℕ → EReal) (n b : ℕ) : Ideal.exp (top u n - top u (n + b)) * den u n
    + ∑ k : Fin b, Ideal.exp (u (n + k.val) - top u (n + b)) = den u (n + b) := by
  have h := num_add u (fun _ => 1) n b
  simp only [mul_one] at h
  rw [den_eq_num, den_eq_num, h]

/-! ## A block's update, as the kernel states it -/

theorem mx_step (u : ℕ → EReal) (n b : ℕ) {m : EReal} {s : Fin b → EReal} (hm : m = cl * top u n)
    (hs : ∀ k, s k = cl * u (n + k.val)) :
    max m ((Finset.univ : Finset (Fin b)).fold max ⊥ s) = cl * top u (n + b) := by
  rw [hm, funext hs, cl_fold, cl_max, top_add]

theorem al_step (u : ℕ → EReal) (n b : ℕ) {m m' : EReal} (hm : m = cl * top u n) (hm' : m' = cl * top u (n + b)) :
    Ideal.exp2 (m - m') = Ideal.exp (top u n - top u (n + b)) := by
  rw [hm, hm', exp2_cl_sub]

theorem den_step (u : ℕ → EReal) (n b : ℕ) {m m' l : EReal} {s : Fin b → EReal} (hm : m = cl * top u n)
    (hs : ∀ k, s k = cl * u (n + k.val)) (hm' : m' = cl * top u (n + b)) (hl : l = den u n) :
    Ideal.exp2 (m - m') * l + ∑ k, Ideal.exp2 (s k - m') = den u (n + b) := by
  rw [al_step u n b hm hm', hl, ← den_add]
  congr 1
  exact Finset.sum_congr rfl fun k _ => by rw [hs, hm', exp2_cl_sub]

theorem num_step (u w : ℕ → EReal) (n b : ℕ) {m m' a : EReal} {s y : Fin b → EReal} (hm : m = cl * top u n)
    (hs : ∀ k, s k = cl * u (n + k.val)) (hm' : m' = cl * top u (n + b)) (ha : a = num u w n)
    (hy : ∀ k, y k = w (n + k.val)) :
    Ideal.exp2 (m - m') * a + ∑ k, Ideal.exp2 (s k - m') * y k = num u w (n + b) := by
  rw [al_step u n b hm hm', ha, ← num_add]
  congr 1
  exact Finset.sum_congr rfl fun k _ => by rw [hs, hm', exp2_cl_sub, hy]

theorem top_zero (u : ℕ → EReal) : (⊥ : EReal) = cl * top u 0 := cl_mul_bot.symm

theorem den_zero (u : ℕ → EReal) : (0 : EReal) = den u 0 := rfl

theorem num_zero (u w : ℕ → EReal) : (0 : EReal) = num u w 0 := rfl

/-! ## The whole row -/

theorem top_ext {u : ℕ → EReal} {n N : ℕ} (h : n ≤ N) (hu : ∀ k, n ≤ k → u k = ⊥) : top u N = top u n :=
  le_antisymm (top_le.mpr fun k _ => if hk : k < n then le_top_of hk else (hu k (by omega)).le.trans bot_le)
    (top_le.mpr fun k hk => le_top_of (by omega))

theorem num_ext {u w : ℕ → EReal} {n N : ℕ} (h : n ≤ N) (hu : ∀ k, n ≤ k → u k = ⊥) : num u w N = num u w n := by
  unfold num
  rw [top_ext h hu]
  refine (Finset.sum_subset (Finset.range_mono h) fun k _ hk => ?_).symm
  rw [hu k (by simpa using hk), EReal.bot_sub]
  exact zero_mul _

/-- The row's softmax against a column: with a finite score in reach and none infinite, the quotient of the sums
    is the sum of the quotients. -/
theorem soft_eq {u w : ℕ → EReal} {n N : ℕ} (h : n ≤ N) (hu : ∀ k, n ≤ k → u k = ⊥) {q : ℕ} (hq : q < n)
    (hf : u q ≠ ⊥) (ht : ∀ k, u k ≠ ⊤) :
    Ideal.div (num u w n) (den u n)
      = ∑ k : Fin N, w k.val * Ideal.div (Ideal.exp (u k.val - top u N)) (0 + ∑ j : Fin N, Ideal.exp (u j.val - top u N)) := by
  have hN : den u N = den u n := by rw [den_eq_num, den_eq_num, num_ext h hu]
  have hd : (∑ j : Fin N, Ideal.exp (u j.val - top u N)) = den u n := by
    rw [← hN]; exact (Finset.sum_range fun k => Ideal.exp (u k - top u N)).symm
  obtain ⟨k₀, hk₀, e₀⟩ : ∃ k < n, top u n = u k := by
    have h' : top u n ∈ Set.range (fun k : Fin n => u k.val) ∨ top u n = ⊥ := by
      by_contra hc
      push Not at hc
      have hlt : top u n < top u n := by
        conv_lhs => unfold top
        rw [Finset.fold_max_lt]
        refine ⟨bot_lt_iff_ne_bot.mpr hc.2, fun k hk => lt_of_le_of_ne (le_top_of (Finset.mem_range.mp hk)) fun e => hc.1 ⟨⟨k, Finset.mem_range.mp hk⟩, e⟩⟩
      exact lt_irrefl _ hlt
    rcases h' with ⟨k, hk⟩ | hb
    · exact ⟨k.val, k.isLt, hk.symm⟩
    · exact absurd (le_bot_iff.mp (hb ▸ le_top_of hq)) hf
  have hb : top u n ≠ ⊥ := fun hb => hf (le_bot_iff.mp (hb ▸ le_top_of hq))
  have h1 : Ideal.exp (u k₀ - top u n) = 1 := by
    rw [e₀] at hb ⊢
    have htk := ht k₀
    generalize u k₀ = x at hb htk
    induction x using EReal.rec with
    | bot => exact absurd rfl hb
    | top => exact absurd rfl htk
    | coe r =>
      show ((Real.exp (r - r) : ℝ) : EReal) = 1
      simp
  have hpos : den u n ≠ 0 := by
    have : (1 : EReal) ≤ den u n := by
      rw [← h1]
      exact Finset.single_le_sum (f := fun k => Ideal.exp (u k - top u n)) (fun k _ => exp_nonneg _) (Finset.mem_range.mpr hk₀)
    exact fun e => absurd (e ▸ this) (by simp)
  have h0 : 0 ≤ den u n := Finset.sum_nonneg fun k _ => exp_nonneg _
  have hdiv : ∀ x, Ideal.div x (den u n) = (den u n)⁻¹ * x := fun x => by
    unfold Ideal.div
    rw [if_neg hpos, mul_comm]
  have hinv : 0 ≤ (den u n)⁻¹ := EReal.inv_nonneg_of_nonneg h0
  have htop : (den u n)⁻¹ ≠ ⊤ := by
    generalize den u n = x
    induction x using EReal.rec with
    | bot => simp
    | top => simp
    | coe r => rw [← EReal.coe_inv]; exact EReal.coe_ne_top _
  rw [zero_add, hd, hdiv, ← num_ext h hu]
  unfold num
  rw [mul_sum_fin _ hinv htop]
  refine (Finset.sum_range fun k => (den u n)⁻¹ * (Ideal.exp (u k - top u N) * w k)).trans ?_
  refine Finset.sum_congr rfl fun k _ => ?_
  rw [hdiv, ← mul_assoc, mul_comm (w k.val)]

end Cert.Layer

end
-- ==== Proof.Fox.lean ====
/- The attention with its decay, at the exact reals: after the run the output array is the reference's result. -/
module

public import proofs.«01_k».proof.Proof.Soft
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.WholeRead
public import Idealize.ShloMosaic.Lib.Claim

@[expose] public section

set_option maxRecDepth 16384

noncomputable section

namespace Cert.Kernel7Ideal.Fox

open Idealize.ShloMosaic Idealize.ShloMosaic.TcCoe Idealize.SL.Sem
open Idealize.ShloMosaic.Pipeline (Dat)
open Cert.Kernel7Ideal Cert.Kernel7Ideal.Gen
open Cert.Layer (cl top den num)
open Idealize.ShloMosaic.WordCmp
open scoped BigOperators

/-! ## One head's row update, in the kernel's operations -/

/-- The scores within the diagonal's block: those at or before the query's place. -/
def low (S : FVec Ideal S512x512 .f32) : FVec Ideal S512x512 .f32 :=
  select (k0_pay68 : IVec S512x512 1) S (broadcast S512x512 (Scalar.ofBits .f32 0xFF800000#32))

/-- The running maximum with a block's scores. -/
def mx (m : FVec Ideal S512x1 .f32) (S : FVec Ideal S512x512 .f32) : FVec Ideal S512x1 .f32 :=
  maximumf m (shapeCast S512x1 (multiReduction .maximumf [1] S512 S 0xFF800000#32 reduces_S512x512_S512 (.inl rfl) rfl) shapeCasts_S512_S512x1)

/-- The factor the earlier sums take. -/
def al (m : FVec Ideal S512x1 .f32) (S : FVec Ideal S512x512 .f32) : FVec Ideal S512x1 .f32 := exp2 (subf m (mx m S))

/-- The block's weights. -/
def pr (m : FVec Ideal S512x1 .f32) (S : FVec Ideal S512x512 .f32) : FVec Ideal S512x512 .f32 :=
  exp2 (subf S (broadcastTo S512x512 (mx m S) broadcasts_S512x1_S512x512))

/-- The running sum of weights. -/
def sm (m l : FVec Ideal S512x1 .f32) (S : FVec Ideal S512x512 .f32) : FVec Ideal S512x1 .f32 :=
  addf (mulf (al m S) l) (shapeCast S512x1 (multiReduction .add [1] S512 (pr m S) 0x00000000#32 reduces_S512x512_S512 (.inl rfl) rfl) shapeCasts_S512_S512x1)

/-- The running product with the values. -/
def ac (m : FVec Ideal S512x1 .f32) (a : FVec Ideal S512x128 .f32) (S : FVec Ideal S512x512 .f32) (v : Vec Ideal S512x128 .bf16) :
    FVec Ideal S512x128 .f32 :=
  addf (mulf (broadcastTo S512x128 (al m S) broadcasts_S512x1_S512x128) a)
    (matmul dot_S512x512_S512x128_S512x128_1_0_0_1_n_n none (truncf .bf16 (pr m S) bitsLt_bf16_f32)
      (shapeCast S512x128 v shapeCasts_S512x128_S512x128 : FVec Ideal S512x128 .bf16) (constant S512x128 .f32 0x00000000#32))

/-- The quotient stored. -/
def qt (a : FVec Ideal S512x128 .f32) (l : FVec Ideal S512x1 .f32) : FVec Ideal S512x128 .bf16 :=
  truncf .bf16 (divf a (broadcastTo S512x128 l broadcasts_S512x1_S512x128)) bitsLt_bf16_f32

/-- The query's decay at a head's column, scaled. -/
def cq (w : BitVec 32) (x : Vec Ideal S512x128 .f32) : FVec Ideal S512x1 .f32 :=
  mulf (broadcast S512x1 (Named.named κ "log2e" 0x3FB8AA3B#32))
    (shapeCast S512x1 (multiReduction .add [1] S512
      (select (cmpi .eq (iota .tc S512x128 32 [1] iota_S512x128_d1_w32) (broadcast S512x128 w))
        (shapeCast S512x128 x shapeCasts_S512x128_S512x128 : FVec Ideal S512x128 .f32) (broadcast S512x128 (Scalar.ofBits .f32 0x00000000#32)))
      0x00000000#32 reduces_S512x128_S512 (.inl rfl) rfl) shapeCasts_S512_S512x1)

/-! ## At an index -/

theorem ninf : Ideal.ofBits .f32 0xFF800000#32 = ⊥ := by simp [Ideal.ofBits, Ideal.ieee]

theorem named_log : Named.named (F := Ideal) κ "log2e" (φ := .f32) 0x3FB8AA3B#32 = cl :=
  IdealRules.named_const.ideal_named_scalar _ _ _ _ rfl

theorem named_scale : Named.named (F := Ideal) κ "scale_log2e" (φ := .f32) 0x3E0293EE#32 = (((Real.log 2)⁻¹ * (11863283 / 134217728) : ℝ) : EReal) :=
  IdealRules.named_const.ideal_named_scalar _ _ _ _ rfl

theorem mx_ix (m : FVec Ideal S512x1 .f32) (S : FVec Ideal S512x512 .f32) (r : Fin 512) :
    mx m S (ix2 r 0) = max (m (ix2 r 0)) ((Finset.univ : Finset (Fin 512)).fold max ⊥ fun k => S (ix2 r k)) := by
  pointwise [mx]
  rw [ninf]

theorem al_ix (m : FVec Ideal S512x1 .f32) (S : FVec Ideal S512x512 .f32) (r : Fin 512) :
    al m S (ix2 r 0) = Ideal.exp2 (m (ix2 r 0) - mx m S (ix2 r 0)) := rfl

theorem pr_ix (m : FVec Ideal S512x1 .f32) (S : FVec Ideal S512x512 .f32) (r k : Fin 512) :
    pr m S (ix2 r k) = Ideal.exp2 (S (ix2 r k) - mx m S (ix2 r 0)) := by
  pointwise [pr]
  rfl

theorem sm_ix (m l : FVec Ideal S512x1 .f32) (S : FVec Ideal S512x512 .f32) (r : Fin 512) :
    sm m l S (ix2 r 0) = al m S (ix2 r 0) * l (ix2 r 0) + ∑ k : Fin 512, pr m S (ix2 r k) := by
  pointwise [sm]

theorem ac_ix (m : FVec Ideal S512x1 .f32) (a : FVec Ideal S512x128 .f32) (S : FVec Ideal S512x512 .f32) (v : Vec Ideal S512x128 .bf16)
    (r : Fin 512) (d : Fin 128) :
    ac m a S v (ix2 r d) = al m S (ix2 r 0) * a (ix2 r d) + ∑ k : Fin 512, pr m S (ix2 r k) * v (ix2 k d) := by
  pointwise [ac]

theorem qt_ix (a : FVec Ideal S512x128 .f32) (l : FVec Ideal S512x1 .f32) (r : Fin 512) (d : Fin 128) :
    qt a l (ix2 r d) = Ideal.div (a (ix2 r d)) (l (ix2 r 0)) := by
  pointwise [qt]

/-- The scaled scores are the scaled scores' unscaled form, scaled. -/
theorem scale_out (X a b : EReal) :
    X * (((Real.log 2)⁻¹ * (11863283 / 134217728) : ℝ) : EReal) + cl * a - cl * b = cl * (X * ((11863283 / 134217728 : ℝ) : EReal) + a - b) := by
  rw [Cert.Layer.cl_sub, Cert.Layer.cl_add, EReal.coe_mul, mul_left_comm]

theorem sc_ix (q : FVec Ideal S512x128 .bf16) (c : FVec Ideal S512x1 .f32) (kb : Vec Ideal S512x128 .bf16) (ct : Vec Ideal S1x1x512 .f32)
    (r k : Fin 512) : k0_pay2 q c kb ct (ix2 r k)
      = (∑ d : Fin 128, q (ix2 r d) * kb (ix2 k d)) * (((Real.log 2)⁻¹ * (11863283 / 134217728) : ℝ) : EReal) + c (ix2 r 0) - cl * ct (ix3 0 0 k) := by
  pointwise [k0_pay2]
  rw [named_scale, named_log]

theorem low_ix (S : FVec Ideal S512x512 .f32) (r k : Fin 512) : low S (ix2 r k) = if k.val ≤ r.val then S (ix2 r k) else ⊥ := by
  pointwise [low, k0_pay68]
  rw [ninf, cmpi_sle_ofNat (by omega) (by omega), select_ofBool]
  simp

theorem cq_ix (w : ℕ) (hw : w < 128) (x : Vec Ideal S512x128 .f32) (r : Fin 512) :
    cq (BitVec.ofNat 32 w) x (ix2 r 0) = cl * x (ix2 r ⟨w, hw⟩) := by
  pointwise [cq]
  rw [named_log]
  refine congrArg (cl * ·) ?_
  refine (Finset.sum_eq_single (⟨w, hw⟩ : Fin 128) (fun j _ hj => ?_) fun h => absurd (Finset.mem_univ _) h).trans ?_
  · rw [cmpi_eq_eq_toNat, select_ofBool, if_neg]
    rw [decide_eq_true_eq, toNat_ofNat_of_lt (by omega), toNat_ofNat_of_lt (by omega)]
    exact fun e => hj (Fin.ext e)
  · rw [cmpi_eq_eq_toNat, select_ofBool, if_pos (by simp)]

/-! ## The row's state after some of its blocks -/

/-- Per row: the maximum, the weights' sum, and the product with the values, of the first scores. -/
def Inv (u : Fin 512 → ℕ → EReal) (w : Fin 128 → ℕ → EReal) (n : ℕ) (m l : FVec Ideal S512x1 .f32) (a : FVec Ideal S512x128 .f32) : Prop :=
  (∀ r : Fin 512, m (ix2 r 0) = cl * top (u r) n) ∧ (∀ r : Fin 512, l (ix2 r 0) = den (u r) n)
    ∧ ∀ (r : Fin 512) (d : Fin 128), a (ix2 r d) = num (u r) (w d) n

theorem Inv.init (u : Fin 512 → ℕ → EReal) (w : Fin 128 → ℕ → EReal) : Inv u w 0 k0_pay53 k0_pay54 k0_pay55 :=
  ⟨fun r => ninf.trans (Cert.Layer.top_zero _), fun r => by pointwise [k0_pay54]; rfl, fun r d => by pointwise [k0_pay55]; rfl⟩

theorem Inv.step {u : Fin 512 → ℕ → EReal} {w : Fin 128 → ℕ → EReal} {n : ℕ} {m l : FVec Ideal S512x1 .f32} {a : FVec Ideal S512x128 .f32}
    (h : Inv u w n m l a) {S : FVec Ideal S512x512 .f32} {v : Vec Ideal S512x128 .bf16}
    (hs : ∀ r k : Fin 512, S (ix2 r k) = cl * u r (n + k.val)) (hv : ∀ (k : Fin 512) (d : Fin 128), v (ix2 k d) = w d (n + k.val)) :
    Inv u w (n + 512) (mx m S) (sm m l S) (ac m a S v) := by
  obtain ⟨hm, hl, ha⟩ := h
  have hm' : ∀ r : Fin 512, mx m S (ix2 r 0) = cl * top (u r) (n + 512) := fun r => by
    rw [mx_ix]; exact Cert.Layer.mx_step (u r) n 512 (hm r) (hs r)
  refine ⟨hm', fun r => ?_, fun r d => ?_⟩
  · rw [sm_ix, al_ix]
    simp only [pr_ix]
    exact Cert.Layer.den_step (u r) n 512 (s := fun k => S (ix2 r k)) (hm r) (hs r) (hm' r) (hl r)
  · rw [ac_ix, al_ix]
    simp only [pr_ix]
    exact Cert.Layer.num_step (u r) (w d) n 512 (s := fun k => S (ix2 r k)) (y := fun k => v (ix2 k d)) (hm r) (hs r) (hm' r) (ha r d) fun k => hv k d

theorem Inv.quot {u : Fin 512 → ℕ → EReal} {w : Fin 128 → ℕ → EReal} {n : ℕ} {m l : FVec Ideal S512x1 .f32} {a : FVec Ideal S512x128 .f32}
    (h : Inv u w n m l a) (r : Fin 512) (d : Fin 128) : qt a l (ix2 r d) = Ideal.div (num (u r) (w d) n) (den (u r) n) := by
  rw [qt_ix, h.2.1, h.2.2]

/-! ## The scores of a point's blocks -/

/-- A score over the blocks. -/
def bs (x0 : Vec Ideal S512x512 .bf16) (x1 : Vec Ideal S2048x512 .bf16) (x3 : Vec Ideal S512x128 .f32) (x4 : Vec Ideal S1x8x2048 .f32)
    (e : Fin 8) (h : Fin 4) (r : Fin 512) (k : Fin 2048) : EReal :=
  (∑ d : Fin 128, (x0 (ix2 r ⟨h.val * 128 + d.val, by omega⟩) : EReal) * x1 (ix2 k ⟨h.val * 128 + d.val, by omega⟩)) * ((11863283 / 134217728 : ℝ) : EReal)
    + x3 (ix2 r ⟨e.val, by omega⟩) - x4 (ix3 0 e k)

/-- A row's scores, none past the query's place. -/
def bu (x0 : Vec Ideal S512x512 .bf16) (x1 : Vec Ideal S2048x512 .bf16) (x3 : Vec Ideal S512x128 .f32) (x4 : Vec Ideal S1x8x2048 .f32)
    (e : Fin 8) (h : Fin 4) (q : Fin 4) (r : Fin 512) (k : ℕ) : EReal :=
  if hk : k ≤ 512 * q.val + r.val then bs x0 x1 x3 x4 e h r ⟨k, by omega⟩ else ⊥

/-- A column of the values. -/
def bw (x2 : Vec Ideal S2048x512 .bf16) (h : Fin 4) (d : Fin 128) (k : ℕ) : EReal :=
  if hk : k < 2048 then x2 (ix2 ⟨k, hk⟩ ⟨h.val * 128 + d.val, by omega⟩) else 0

section blocks

variable {x0 : Vec Ideal S512x512 .bf16} {x1 x2 : Vec Ideal S2048x512 .bf16} {x3 : Vec Ideal S512x128 .f32} {x4 : Vec Ideal S1x8x2048 .f32}
  {e : Fin 8} {h : Fin 4} {j : ℕ} (hj : j < 4)

theorem sc_at {q : FVec Ideal S512x128 .bf16} {c : FVec Ideal S512x1 .f32} {kb : Vec Ideal S512x128 .bf16} {ct : Vec Ideal S1x1x512 .f32}
    (hq : ∀ (r : Fin 512) (d : Fin 128), q (ix2 r d) = x0 (ix2 r ⟨h.val * 128 + d.val, by omega⟩))
    (hc : ∀ r : Fin 512, c (ix2 r 0) = cl * x3 (ix2 r ⟨e.val, by omega⟩))
    (hk : ∀ (k : Fin 512) (d : Fin 128), kb (ix2 k d) = x1 (ix2 ⟨512 * j + k.val, by omega⟩ ⟨h.val * 128 + d.val, by omega⟩))
    (ht : ∀ k : Fin 512, ct (ix3 0 0 k) = x4 (ix3 0 e ⟨512 * j + k.val, by omega⟩)) (r k : Fin 512) :
    k0_pay2 q c kb ct (ix2 r k) = cl * bs x0 x1 x3 x4 e h r ⟨512 * j + k.val, by omega⟩ := by
  rw [sc_ix, hc, ht, scale_out]
  simp only [hq, hk]
  rfl

/-- A block before the diagonal's. -/
theorem early {q : Fin 4} (hjq : j < q.val) {S : FVec Ideal S512x512 .f32}
    (hs : ∀ r k : Fin 512, S (ix2 r k) = cl * bs x0 x1 x3 x4 e h r ⟨512 * j + k.val, by omega⟩) (r k : Fin 512) :
    S (ix2 r k) = cl * bu x0 x1 x3 x4 e h q r (512 * j + k.val) := by
  rw [hs, bu, dif_pos (by omega)]

/-- The diagonal's block. -/
theorem late {q : Fin 4} (hjq : j = q.val) {S : FVec Ideal S512x512 .f32}
    (hs : ∀ r k : Fin 512, S (ix2 r k) = cl * bs x0 x1 x3 x4 e h r ⟨512 * j + k.val, by omega⟩) (r k : Fin 512) :
    low S (ix2 r k) = cl * bu x0 x1 x3 x4 e h q r (512 * j + k.val) := by
  rw [low_ix, hs, bu]
  by_cases hk : k.val ≤ r.val
  · rw [if_pos hk, dif_pos (by omega)]
  · rw [if_neg hk, dif_neg (by omega), Cert.Layer.cl_mul_bot]

theorem val_at {v : Vec Ideal S512x128 .bf16}
    (hv : ∀ (k : Fin 512) (d : Fin 128), v (ix2 k d) = x2 (ix2 ⟨512 * j + k.val, by omega⟩ ⟨h.val * 128 + d.val, by omega⟩))
    (k : Fin 512) (d : Fin 128) : v (ix2 k d) = bw x2 h d (512 * j + k.val) := by
  rw [hv, bw, dif_pos (by omega)]

end blocks

/-! ## Loads -/

theorem ld2 {n c : ℕ} {e : EltTy} {mr : Memref sig .tc .vmem ⟨2, ![n, c]⟩ e} (hm : mr.IsWhole) (x : Vec Ideal ⟨2, ![n, c]⟩ e)
    {n' c' : ℕ} (off : Fin 2 → ℕ) (inb) (o p : ℕ) (ho : off = ![o, p]) (r : Fin n') (d : Fin c') (hr : o + r.val < n) (hd : p + d.val < c) :
    View.readAt (Elt Ideal) mr.view (Rect.unit (s := ⟨2, ![n, c]⟩) off ![n', c'] inb).toLoadRect (hm.unread x) (ix2 r d)
      = x (ix2 ⟨o + r.val, hr⟩ ⟨p + d.val, hd⟩) := by
  subst ho
  refine (hm.readAt_unread x _ _).trans (congrArg x (funext fun a => Fin.ext ?_))
  match a with
  | ⟨0, _⟩ => exact Rect.idx_unit_val ..
  | ⟨1, _⟩ => exact Rect.idx_unit_val ..

theorem ld3 {b n c : ℕ} {e : EltTy} {mr : Memref sig .tc .vmem ⟨3, ![b, n, c]⟩ e} (hm : mr.IsWhole) (x : Vec Ideal ⟨3, ![b, n, c]⟩ e)
    {b' n' c' : ℕ} (off : Fin 3 → ℕ) (inb) (o p q : ℕ) (ho : off = ![o, p, q]) (z : Fin b') (r : Fin n') (d : Fin c')
    (hz : o + z.val < b) (hr : p + r.val < n) (hd : q + d.val < c) :
    View.readAt (Elt Ideal) mr.view (Rect.unit (s := ⟨3, ![b, n, c]⟩) off ![b', n', c'] inb).toLoadRect (hm.unread x) (ix3 z r d)
      = x (ix3 ⟨o + z.val, hz⟩ ⟨p + r.val, hr⟩ ⟨q + d.val, hd⟩) := by
  subst ho
  refine (hm.readAt_unread x _ _).trans (congrArg x (funext fun a => Fin.ext ?_))
  match a with
  | ⟨0, _⟩ => exact Rect.idx_unit_val ..
  | ⟨1, _⟩ => exact Rect.idx_unit_val ..
  | ⟨2, _⟩ => exact Rect.idx_unit_val ..

/-! ## The grid -/

theorem trips1 : ∀ t : Fin cfg0.N, (k0_t1_loop (grid0.coords t)).trips = t.val % 4 :=
  (by decide +kernel : ∀ t : Fin grid0.N, _)

theorem trips2 : ∀ t : Fin cfg0.N, (k0_t2_loop (grid0.coords t)).trips = 0 :=
  (by decide +kernel : ∀ t : Fin grid0.N, _)

theorem offs : ∀ t : Fin cfg0.N, ∀ k : Fin (k0_t1_loop (grid0.coords t)).trips,
    k0_off1 (grid0.coords t) k = ![512 * k.val, 0] ∧ k0_off3 (grid0.coords t) k = ![512 * k.val, 128]
    ∧ k0_off4 (grid0.coords t) k = ![512 * k.val, 256] ∧ k0_off5 (grid0.coords t) k = ![512 * k.val, 384]
    ∧ k0_off2 (grid0.coords t) k 0#32 = ![0, t.val / 4 % 2 * 4 + 0, 512 * k.val] ∧ k0_off2 (grid0.coords t) k 1#32 = ![0, t.val / 4 % 2 * 4 + 1, 512 * k.val]
    ∧ k0_off2 (grid0.coords t) k 2#32 = ![0, t.val / 4 % 2 * 4 + 2, 512 * k.val] ∧ k0_off2 (grid0.coords t) k 3#32 = ![0, t.val / 4 % 2 * 4 + 3, 512 * k.val] :=
  (by decide +kernel : ∀ t : Fin grid0.N, ∀ k : Fin (k0_t1_loop (grid0.coords t)).trips, _)

theorem offd : ∀ t : Fin cfg0.N,
    k0_off11 (grid0.coords t) = ![512 * (t.val % 4), 0] ∧ k0_off13 (grid0.coords t) = ![512 * (t.val % 4), 128]
    ∧ k0_off14 (grid0.coords t) = ![512 * (t.val % 4), 256] ∧ k0_off15 (grid0.coords t) = ![512 * (t.val % 4), 384]
    ∧ k0_off12 (grid0.coords t) 0#32 = ![0, t.val / 4 % 2 * 4 + 0, 512 * (t.val % 4)] ∧ k0_off12 (grid0.coords t) 1#32 = ![0, t.val / 4 % 2 * 4 + 1, 512 * (t.val % 4)]
    ∧ k0_off12 (grid0.coords t) 2#32 = ![0, t.val / 4 % 2 * 4 + 2, 512 * (t.val % 4)] ∧ k0_off12 (grid0.coords t) 3#32 = ![0, t.val / 4 % 2 * 4 + 3, 512 * (t.val % 4)] :=
  (by decide +kernel : ∀ t : Fin grid0.N, _)

/-! ## One trip -/

/-- A block's key columns of one head. -/
def kbk (arg4 : Memref sig .tc .vmem S2048x512 .bf16) (X : BufTy.Contents (Elt Ideal) arg4.view.ty) (off : Fin 2 → ℕ) (inb : ∀ a, off a + S512x128.size a ≤ S2048x512.size a) : Vec Ideal S512x128 .bf16 :=
  View.readAt (Elt Ideal) arg4.view (Rect.unit (s := S2048x512) off S512x128.size inb).toLoadRect X

/-- A block's cumulative gates of one head. -/
def ctk (arg7 : Memref sig .tc .vmem S1x8x2048 .f32) (X : BufTy.Contents (Elt Ideal) arg7.view.ty) (off : Fin 3 → ℕ) (inb : ∀ a, off a + S1x1x512.size a ≤ S1x8x2048.size a) : Vec Ideal S1x1x512 .f32 :=
  View.readAt (Elt Ideal) arg7.view (Rect.unit (s := S1x8x2048) off S1x1x512.size inb).toLoadRect X

/-- The carried values of the four heads. -/
abbrev Carry : Type := FVec Ideal S512x1 .f32 × FVec Ideal S512x1 .f32 × FVec Ideal S512x128 .f32 × FVec Ideal S512x1 .f32 × FVec Ideal S512x1 .f32
  × FVec Ideal S512x128 .f32 × FVec Ideal S512x1 .f32 × FVec Ideal S512x1 .f32 × FVec Ideal S512x128 .f32 × FVec Ideal S512x1 .f32
  × FVec Ideal S512x1 .f32 × FVec Ideal S512x128 .f32

/-- The four heads' states. -/
def Inv4 (u : Fin 4 → Fin 512 → ℕ → EReal) (w : Fin 4 → Fin 128 → ℕ → EReal) (n : ℕ) (s : Carry) : Prop :=
  Inv (u 0) (w 0) n s.1 s.2.1 s.2.2.1 ∧ Inv (u 1) (w 1) n s.2.2.2.1 s.2.2.2.2.1 s.2.2.2.2.2.1
    ∧ Inv (u 2) (w 2) n s.2.2.2.2.2.2.1 s.2.2.2.2.2.2.2.1 s.2.2.2.2.2.2.2.2.1
    ∧ Inv (u 3) (w 3) n s.2.2.2.2.2.2.2.2.2.1 s.2.2.2.2.2.2.2.2.2.2.1 s.2.2.2.2.2.2.2.2.2.2.2

section trip

variable (c : Dev nD) (i : grid0.Coords) (arg3 : Memref sig .tc .vmem S512x512 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x128 .f32) (harg6 : arg6.IsWhole) (arg7 : Memref sig .tc .vmem S1x8x2048 .f32) (harg7 : arg7.IsWhole)
  (arg8 : Memref sig .tc .vmem S512x512 .bf16) (harg8 : arg8.IsWhole) (arg1 arg2 : BitVec 32) (v0 : IVec S512x128 32)
  (v2 v4 v6 v8 : FVec Ideal S512x128 .bf16) (v21 v32 : FVec Ideal S512x1 .f32) (cst_15 : Ideal .f32) (v40 v53 : Vec Ideal S512x128 .f32)
  (X4 : BufTy.Contents (Elt Ideal) arg4.view.ty) (X5 : BufTy.Contents (Elt Ideal) arg5.view.ty) (X7 : BufTy.Contents (Elt Ideal) arg7.view.ty)

theorem trip_eq (k : Fin (k0_t1_loop i).trips) (a : Carry) :
    tripR_k0_t1 (F := Ideal) Variants.none c none i arg3 harg3 arg4 harg4 arg5 harg5 arg6 harg6 arg7 harg7 arg8 harg8 arg1 arg2 v0 v2 v4 v6 v8
      v21 v32 cst_15 v40 v53 X4 X5 X7 k a
    = (let s0 := k0_pay2 v2 v21 (kbk arg4 X4 (k0_off1 i k) (k0_off1_inb i k)) (ctk arg7 X7 (k0_off2 i k 0#32) (k0_off2_inb i k 0))
       let s1 := k0_pay2 v4 (k0_pay50 v32 cst_15) (kbk arg4 X4 (k0_off3 i k) (k0_off3_inb i k)) (ctk arg7 X7 (k0_off2 i k 1#32) (k0_off2_inb i k 1))
       let s2 := k0_pay2 v6 (k0_pay51 arg1 v0 v40) (kbk arg4 X4 (k0_off4 i k) (k0_off4_inb i k)) (ctk arg7 X7 (k0_off2 i k 2#32) (k0_off2_inb i k 2))
       let s3 := k0_pay2 v8 (k0_pay52 arg1 v0 v53) (kbk arg4 X4 (k0_off5 i k) (k0_off5_inb i k)) (ctk arg7 X7 (k0_off2 i k 3#32) (k0_off2_inb i k 3))
       (mx a.1 s0, sm a.1 a.2.1 s0, ac a.1 a.2.2.1 s0 (kbk arg5 X5 (k0_off1 i k) (k0_off1_inb i k)),
        mx a.2.2.2.1 s1, sm a.2.2.2.1 a.2.2.2.2.1 s1, ac a.2.2.2.1 a.2.2.2.2.2.1 s1 (kbk arg5 X5 (k0_off3 i k) (k0_off3_inb i k)),
        mx a.2.2.2.2.2.2.1 s2, sm a.2.2.2.2.2.2.1 a.2.2.2.2.2.2.2.1 s2, ac a.2.2.2.2.2.2.1 a.2.2.2.2.2.2.2.2.1 s2 (kbk arg5 X5 (k0_off4 i k) (k0_off4_inb i k)),
        mx a.2.2.2.2.2.2.2.2.2.1 s3, sm a.2.2.2.2.2.2.2.2.2.1 a.2.2.2.2.2.2.2.2.2.2.1 s3,
        ac a.2.2.2.2.2.2.2.2.2.1 a.2.2.2.2.2.2.2.2.2.2.2 s3 (kbk arg5 X5 (k0_off5 i k) (k0_off5_inb i k)))) := by
  unfold tripR_k0_t1 trip_k0_t1
  rfl

end trip

end Cert.Kernel7Ideal.Fox

end
-- ==== Proof.FoxRun.lean ====
/- The attention's point: its output block from the blocks it reads. -/
module

public import proofs.«01_k».proof.Proof.Fox

@[expose] public section

set_option maxRecDepth 16384

noncomputable section

namespace Cert.Kernel7Ideal.Fox

open Idealize.ShloMosaic Idealize.ShloMosaic.TcCoe Idealize.SL.Sem
open Idealize.ShloMosaic.Pipeline (Dat)
open Cert.Kernel7Ideal Cert.Kernel7Ideal.Gen
open Cert.Layer (cl top den num)
open Idealize.ShloMosaic.WordCmp
open scoped BigOperators

section head

variable {x0 : Vec Ideal S512x512 .bf16} {x1 x2 : Vec Ideal S2048x512 .bf16} {x3 : Vec Ideal S512x128 .f32} {x4 : Vec Ideal S1x8x2048 .f32}
  {arg4 arg5 : Memref sig .tc .vmem S2048x512 .bf16} {arg7 : Memref sig .tc .vmem S1x8x2048 .f32}

/-- The scores of one head over a block. -/
theorem blk_s (harg4 : arg4.IsWhole) (harg7 : arg7.IsWhole) {e : Fin 8} {h : Fin 4} {j : ℕ} (hj : j < 4) {qv : FVec Ideal S512x128 .bf16} {cv : FVec Ideal S512x1 .f32}
    (hq : ∀ (r : Fin 512) (d : Fin 128), qv (ix2 r d) = x0 (ix2 r ⟨h.val * 128 + d.val, by omega⟩))
    (hc : ∀ r : Fin 512, cv (ix2 r 0) = cl * x3 (ix2 r ⟨e.val, by omega⟩))
    {o1 : Fin 2 → ℕ} {inb1} (ho1 : o1 = ![512 * j, h.val * 128]) {o2 : Fin 3 → ℕ} {inb2} (ho2 : o2 = ![0, e.val, 512 * j]) (r k : Fin 512) :
    k0_pay2 qv cv (kbk arg4 (harg4.unread x1) o1 inb1) (ctk arg7 (harg7.unread x4) o2 inb2) (ix2 r k)
      = cl * bs x0 x1 x3 x4 e h r ⟨512 * j + k.val, by omega⟩ := by
  refine sc_at hj hq hc (fun k d => ld2 harg4 x1 o1 inb1 _ _ ho1 k d (by omega) (by omega)) (fun k => ?_) r k
  refine (ld3 harg7 x4 o2 inb2 _ _ _ ho2 0 0 k (by decide) (by have := e.isLt; show e.val + 0 < 8; omega) (by omega)).trans ?_
  rfl

/-- The values of one head over a block. -/
theorem blk_v (harg5 : arg5.IsWhole) {h : Fin 4} {j : ℕ} (hj : j < 4) {o1 : Fin 2 → ℕ} {inb1} (ho1 : o1 = ![512 * j, h.val * 128]) (k : Fin 512) (d : Fin 128) :
    kbk arg5 (harg5.unread x2) o1 inb1 (ix2 k d) = bw x2 h d (512 * j + k.val) :=
  val_at hj (fun k d => ld2 harg5 x2 o1 inb1 _ _ ho1 k d (by omega) (by omega)) k d

/-- One head's update by a block before the diagonal's. -/
theorem head_step (harg4 : arg4.IsWhole) (harg5 : arg5.IsWhole) (harg7 : arg7.IsWhole) {e : Fin 8} {h q : Fin 4} {j : ℕ} (hj : j < q.val)
    {qv : FVec Ideal S512x128 .bf16} {cv : FVec Ideal S512x1 .f32}
    (hq : ∀ (r : Fin 512) (d : Fin 128), qv (ix2 r d) = x0 (ix2 r ⟨h.val * 128 + d.val, by omega⟩))
    (hc : ∀ r : Fin 512, cv (ix2 r 0) = cl * x3 (ix2 r ⟨e.val, by omega⟩))
    {o1 : Fin 2 → ℕ} {inb1} (ho1 : o1 = ![512 * j, h.val * 128]) {o2 : Fin 3 → ℕ} {inb2} (ho2 : o2 = ![0, e.val, 512 * j])
    {m l : FVec Ideal S512x1 .f32} {a : FVec Ideal S512x128 .f32} (hi : Inv (bu x0 x1 x3 x4 e h q) (bw x2 h) (512 * j) m l a) :
    Inv (bu x0 x1 x3 x4 e h q) (bw x2 h) (512 * (j + 1)) (mx m (k0_pay2 qv cv (kbk arg4 (harg4.unread x1) o1 inb1) (ctk arg7 (harg7.unread x4) o2 inb2)))
      (sm m l (k0_pay2 qv cv (kbk arg4 (harg4.unread x1) o1 inb1) (ctk arg7 (harg7.unread x4) o2 inb2)))
      (ac m a (k0_pay2 qv cv (kbk arg4 (harg4.unread x1) o1 inb1) (ctk arg7 (harg7.unread x4) o2 inb2)) (kbk arg5 (harg5.unread x2) o1 inb1)) :=
  hi.step (early hj (blk_s harg4 harg7 (by omega) hq hc ho1 ho2)) (blk_v harg5 (by omega) ho1)

/-- One head's update by the diagonal's block, and the quotient. -/
theorem head_last (harg4 : arg4.IsWhole) (harg5 : arg5.IsWhole) (harg7 : arg7.IsWhole) {e : Fin 8} {h q : Fin 4}
    {qv : FVec Ideal S512x128 .bf16} {cv : FVec Ideal S512x1 .f32}
    (hq : ∀ (r : Fin 512) (d : Fin 128), qv (ix2 r d) = x0 (ix2 r ⟨h.val * 128 + d.val, by omega⟩))
    (hc : ∀ r : Fin 512, cv (ix2 r 0) = cl * x3 (ix2 r ⟨e.val, by omega⟩))
    {o1 : Fin 2 → ℕ} {inb1} (ho1 : o1 = ![512 * q.val, h.val * 128]) {o2 : Fin 3 → ℕ} {inb2} (ho2 : o2 = ![0, e.val, 512 * q.val])
    {m l : FVec Ideal S512x1 .f32} {a : FVec Ideal S512x128 .f32} (hi : Inv (bu x0 x1 x3 x4 e h q) (bw x2 h) (512 * q.val) m l a) (r : Fin 512) (d : Fin 128) :
    qt (ac m a (low (k0_pay2 qv cv (kbk arg4 (harg4.unread x1) o1 inb1) (ctk arg7 (harg7.unread x4) o2 inb2))) (kbk arg5 (harg5.unread x2) o1 inb1))
        (sm m l (low (k0_pay2 qv cv (kbk arg4 (harg4.unread x1) o1 inb1) (ctk arg7 (harg7.unread x4) o2 inb2)))) (ix2 r d)
      = Ideal.div (num (bu x0 x1 x3 x4 e h q r) (bw x2 h d) (512 * (q.val + 1))) (den (bu x0 x1 x3 x4 e h q r) (512 * (q.val + 1))) :=
  (hi.step (late q.isLt rfl (blk_s harg4 harg7 q.isLt hq hc ho1 ho2)) (blk_v harg5 q.isLt ho1)).quot r d

end head

/-! ## The blocks before the diagonal's -/

/-- The head's place among a point's eight. -/
def hd (t : Fin cfg0.N) (h : Fin 4) : Fin 8 := ⟨t.val / 4 % 2 * 4 + h.val, by omega⟩

/-- The point's block of queries. -/
def qb (t : Fin cfg0.N) : Fin 4 := ⟨t.val % 4, by omega⟩

section loop

variable {x0 : Vec Ideal S512x512 .bf16} {x1 x2 : Vec Ideal S2048x512 .bf16} {x3 : Vec Ideal S512x128 .f32} {x4 : Vec Ideal S1x8x2048 .f32}
  (c : Dev nD) (t : Fin cfg0.N) (arg3 : Memref sig .tc .vmem S512x512 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x128 .f32) (harg6 : arg6.IsWhole) (arg7 : Memref sig .tc .vmem S1x8x2048 .f32) (harg7 : arg7.IsWhole)
  (arg8 : Memref sig .tc .vmem S512x512 .bf16) (harg8 : arg8.IsWhole) (arg1 arg2 : BitVec 32) (v0 : IVec S512x128 32)
  (v2 v4 v6 v8 : FVec Ideal S512x128 .bf16) (v21 v32 : FVec Ideal S512x1 .f32) (cst_15 : Ideal .f32) (v40 v53 : Vec Ideal S512x128 .f32)

theorem loop_inv
    (q0 : ∀ (r : Fin 512) (d : Fin 128), v2 (ix2 r d) = x0 (ix2 r ⟨(0 : Fin 4).val * 128 + d.val, by omega⟩))
    (q1 : ∀ (r : Fin 512) (d : Fin 128), v4 (ix2 r d) = x0 (ix2 r ⟨(1 : Fin 4).val * 128 + d.val, by omega⟩))
    (q2 : ∀ (r : Fin 512) (d : Fin 128), v6 (ix2 r d) = x0 (ix2 r ⟨(2 : Fin 4).val * 128 + d.val, by omega⟩))
    (q3 : ∀ (r : Fin 512) (d : Fin 128), v8 (ix2 r d) = x0 (ix2 r ⟨(3 : Fin 4).val * 128 + d.val, by omega⟩))
    (c0 : ∀ r : Fin 512, v21 (ix2 r 0) = cl * x3 (ix2 r ⟨(hd t 0).val, by omega⟩))
    (c1 : ∀ r : Fin 512, k0_pay50 v32 cst_15 (ix2 r 0) = cl * x3 (ix2 r ⟨(hd t 1).val, by omega⟩))
    (c2 : ∀ r : Fin 512, k0_pay51 arg1 v0 v40 (ix2 r 0) = cl * x3 (ix2 r ⟨(hd t 2).val, by omega⟩))
    (c3 : ∀ r : Fin 512, k0_pay52 arg1 v0 v53 (ix2 r 0) = cl * x3 (ix2 r ⟨(hd t 3).val, by omega⟩)) :
    ∀ j : ℕ, j ≤ (k0_t1_loop (grid0.coords t)).trips →
      Inv4 (fun h => bu x0 x1 x3 x4 (hd t h) h (qb t)) (bw x2) (512 * j)
        (st_k0_t1 (F := Ideal) Variants.none c none (grid0.coords t) arg3 harg3 arg4 harg4 arg5 harg5 arg6 harg6 arg7 harg7 arg8 harg8 arg1 arg2 v0 v2 v4 v6 v8
          v21 v32 cst_15 v40 v53 (harg4.unread x1) (harg5.unread x2) (harg7.unread x4)
          (k0_pay53, k0_pay54, k0_pay55, k0_pay53, k0_pay54, k0_pay55, k0_pay53, k0_pay54, k0_pay55, k0_pay53, k0_pay54, k0_pay55) j) := by
  intro j
  induction j with
  | zero => exact fun _ => ⟨Inv.init _ _, Inv.init _ _, Inv.init _ _, Inv.init _ _⟩
  | succ j ih =>
    intro hj
    have hjt : j < t.val % 4 := (trips1 t) ▸ hj
    have hq : j < (qb t).val := hjt
    obtain ⟨i0, i1, i2, i3⟩ := ih (Nat.le_of_succ_le hj)
    obtain ⟨o1, o3, o4, o5, p0, p1, p2, p3⟩ := offs t ⟨j, hj⟩
    rw [st_k0_t1_succ Variants.none c none (grid0.coords t) arg3 harg3 arg4 harg4 arg5 harg5 arg6 harg6 arg7 harg7 arg8 harg8 arg1 arg2 v0 v2 v4 v6 v8
          v21 v32 cst_15 v40 v53 _ _ _ _ ⟨j, hj⟩, trip_eq]
    exact ⟨head_step harg4 harg5 harg7 hq q0 c0 o1 p0 i0, head_step harg4 harg5 harg7 hq q1 c1 o3 p1 i1,
      head_step harg4 harg5 harg7 hq q2 c2 o4 p2 i2, head_step harg4 harg5 harg7 hq q3 c3 o5 p3 i3⟩

end loop

/-! ## What the diagonal's block stores, head by head -/

section stored

variable (q : FVec Ideal S512x128 .bf16) (c m l : FVec Ideal S512x1 .f32) (a : FVec Ideal S512x128 .f32) (kb vb : Vec Ideal S512x128 .bf16) (ct : Vec Ideal S1x1x512 .f32)

theorem stored0 : k0_pay76 (k0_pay73 q c m l kb ct) (k0_pay74 q c m a kb ct) (k0_pay75 q c m kb ct vb)
    = qt (ac m a (low (k0_pay2 q c kb ct)) vb) (sm m l (low (k0_pay2 q c kb ct))) := rfl
theorem stored1 : k0_pay83 (k0_pay80 q c m k0_pay68 kb ct) (k0_pay81 q c m l k0_pay68 kb ct) (k0_pay82 q c m a k0_pay68 kb ct) vb
    = qt (ac m a (low (k0_pay2 q c kb ct)) vb) (sm m l (low (k0_pay2 q c kb ct))) := rfl
theorem stored2 : k0_pay90 a (k0_pay87 q c m k0_pay68 kb ct) (k0_pay88 q c m l k0_pay68 kb ct) (k0_pay89 q c m k0_pay68 kb ct) vb
    = qt (ac m a (low (k0_pay2 q c kb ct)) vb) (sm m l (low (k0_pay2 q c kb ct))) := rfl
theorem stored3 : k0_pay1 a (k0_pay93 q c m k0_pay68 kb ct) (k0_pay94 q c m k0_pay68 kb ct) (k0_pay95 q c m l k0_pay68 kb ct) vb
    = qt (ac m a (low (k0_pay2 q c kb ct)) vb) (sm m l (low (k0_pay2 q c kb ct))) := rfl

end stored

/-! ## The point's output -/

/-- A head's result at a row and a column. -/
def hv (x0 : Vec Ideal S512x512 .bf16) (x1 x2 : Vec Ideal S2048x512 .bf16) (x3 : Vec Ideal S512x128 .f32) (x4 : Vec Ideal S1x8x2048 .f32)
    (t : Fin cfg0.N) (h : Fin 4) (r : Fin 512) (d : Fin 128) : EReal :=
  Ideal.div (num (bu x0 x1 x3 x4 (hd t h) h (qb t) r) (bw x2 h d) (512 * ((qb t).val + 1))) (den (bu x0 x1 x3 x4 (hd t h) h (qb t) r) (512 * ((qb t).val + 1)))

section out

variable (x0 : Vec Ideal S512x512 .bf16) (x1 x2 : Vec Ideal S2048x512 .bf16) (x3 : Vec Ideal S512x128 .f32) (x4 : Vec Ideal S1x8x2048 .f32)
  (c : Dev nD) (t : Fin cfg0.N) (arg3 : Memref sig .tc .vmem S512x512 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x128 .f32) (harg6 : arg6.IsWhole) (arg7 : Memref sig .tc .vmem S1x8x2048 .f32) (harg7 : arg7.IsWhole)
  (arg8 : Memref sig .tc .vmem S512x512 .bf16) (harg8 : arg8.IsWhole)

/-- The cumulative gates' block as loaded. -/
def cum : Vec Ideal S512x128 .f32 :=
  View.readAt (Elt Ideal) arg6.view (Rect.unit (s := S512x128) ![0, 0] S512x128.size inb_S512x128_S512x128_0_0).toLoadRect (harg6.unread x3)

theorem cum_at (r : Fin 512) (l : Fin 128) : cum x3 arg6 harg6 (ix2 r l) = x3 (ix2 r l) := by
  refine (ld2 harg6 x3 _ _ 0 0 rfl r l (by omega) (by omega)).trans ?_
  congr 1
  funext a
  match a with
  | ⟨0, _⟩ => exact Fin.ext (Nat.zero_add _)
  | ⟨1, _⟩ => exact Fin.ext (Nat.zero_add _)

theorem word : ∀ (t : Fin cfg0.N) (h : Fin 4), IntOp.addi (IntOp.addi 0#32 (IntOp.muli (BitVec.ofNat 32 (grid0.coords t 1).val) 4#32)) (BitVec.ofNat 32 h.val) = BitVec.ofNat 32 (hd t h).val :=
  (by decide +kernel : ∀ (t : Fin grid0.N) (h : Fin 4), _)

theorem cq_at (h : Fin 4) (r : Fin 512) :
    cq (IntOp.addi (IntOp.addi 0#32 (IntOp.muli (BitVec.ofNat 32 (grid0.coords t 1).val) 4#32)) (BitVec.ofNat 32 h.val)) (cum x3 arg6 harg6) (ix2 r 0) = cl * x3 (ix2 r ⟨(hd t h).val, by omega⟩) := by
  rw [word, cq_ix _ (by have := (hd t h).isLt; omega), cum_at]

theorem c0_at (r : Fin 512) : kernelRun0_A.sl.r_4 (F := Ideal) c (grid0.coords t) arg6 harg6 x3 (ix2 r 0) = cl * x3 (ix2 r ⟨(hd t 0).val, by omega⟩) := by
  unfold kernelRun0_A.sl.r_4
  exact cq_at x3 t arg6 harg6 0 r
theorem c1_at (r : Fin 512) : k0_pay50 (kernelRun0_A.sl.r_5 (F := Ideal) c (grid0.coords t) arg6 harg6 x3) kernelRun0_A.sl.cst_15 (ix2 r 0) = cl * x3 (ix2 r ⟨(hd t 1).val, by omega⟩) := by
  unfold kernelRun0_A.sl.r_5 kernelRun0_A.sl.cst_15
  exact cq_at x3 t arg6 harg6 1 r
theorem c2_at (r : Fin 512) : k0_pay51 (F := Ideal) (BitVec.ofNat 32 (grid0.coords t 1).val) kernelRun0_A.sl.v0 (cum x3 arg6 harg6) (ix2 r 0) = cl * x3 (ix2 r ⟨(hd t 2).val, by omega⟩) := by
  unfold kernelRun0_A.sl.v0
  exact cq_at x3 t arg6 harg6 2 r
theorem c3_at (r : Fin 512) : k0_pay52 (F := Ideal) (BitVec.ofNat 32 (grid0.coords t 1).val) kernelRun0_A.sl.v0 (cum x3 arg6 harg6) (ix2 r 0) = cl * x3 (ix2 r ⟨(hd t 3).val, by omega⟩) := by
  unfold kernelRun0_A.sl.v0
  exact cq_at x3 t arg6 harg6 3 r

theorem q0_at (r : Fin 512) (d : Fin 128) : kernelRun0_A.sl.r (F := Ideal) c arg3 harg3 x0 (ix2 r d) = x0 (ix2 r ⟨(0 : Fin 4).val * 128 + d.val, by omega⟩) := by
  unfold kernelRun0_A.sl.r k0_pay44
  rw [shapeCast_self]
  exact (ld2 harg3 x0 ![0, 0] inb_S512x512_S512x128_0_0 0 0 rfl r d (by omega) (by omega)).trans
    (congrArg x0 (congrArg (fun a => ix2 a _) (Fin.ext (Nat.zero_add _))))
theorem q1_at (r : Fin 512) (d : Fin 128) : kernelRun0_A.sl.r_1 (F := Ideal) c arg3 harg3 x0 (ix2 r d) = x0 (ix2 r ⟨(1 : Fin 4).val * 128 + d.val, by omega⟩) := by
  unfold kernelRun0_A.sl.r_1 k0_pay45
  rw [shapeCast_self]
  exact (ld2 harg3 x0 ![0, 128] inb_S512x512_S512x128_0_128 0 128 rfl r d (by omega) (by omega)).trans
    (congrArg x0 (congrArg (fun a => ix2 a _) (Fin.ext (Nat.zero_add _))))
theorem q2_at (r : Fin 512) (d : Fin 128) : kernelRun0_A.sl.r_2 (F := Ideal) c arg3 harg3 x0 (ix2 r d) = x0 (ix2 r ⟨(2 : Fin 4).val * 128 + d.val, by omega⟩) := by
  unfold kernelRun0_A.sl.r_2 k0_pay46
  rw [shapeCast_self]
  exact (ld2 harg3 x0 ![0, 256] inb_S512x512_S512x128_0_256 0 256 rfl r d (by omega) (by omega)).trans
    (congrArg x0 (congrArg (fun a => ix2 a _) (Fin.ext (Nat.zero_add _))))
theorem q3_at (r : Fin 512) (d : Fin 128) : kernelRun0_A.sl.r_3 (F := Ideal) c arg3 harg3 x0 (ix2 r d) = x0 (ix2 r ⟨(3 : Fin 4).val * 128 + d.val, by omega⟩) := by
  unfold kernelRun0_A.sl.r_3 k0_pay47
  rw [shapeCast_self]
  exact (ld2 harg3 x0 ![0, 384] inb_S512x512_S512x128_0_384 0 384 rfl r d (by omega) (by omega)).trans
    (congrArg x0 (congrArg (fun a => ix2 a _) (Fin.ext (Nat.zero_add _))))

/-- The carried values at the end of the first loop. -/
abbrev st1 : Carry := st_k0_t1 (F := Ideal) Variants.none c none (grid0.coords t) arg3 harg3 arg4 harg4 arg5 harg5 arg6 harg6 arg7 harg7 arg8 harg8
  (BitVec.ofNat 32 (grid0.coords t 1).val) (BitVec.ofNat 32 (grid0.coords t 2).val) kernelRun0_A.sl.v0 (kernelRun0_A.sl.r c arg3 harg3 x0)
  (kernelRun0_A.sl.r_1 c arg3 harg3 x0) (kernelRun0_A.sl.r_2 c arg3 harg3 x0) (kernelRun0_A.sl.r_3 c arg3 harg3 x0) (kernelRun0_A.sl.r_4 c (grid0.coords t) arg6 harg6 x3)
  (kernelRun0_A.sl.r_5 c (grid0.coords t) arg6 harg6 x3) kernelRun0_A.sl.cst_15 (View.readAt (Elt Ideal) arg6.view (Rect.unit (s := S512x128) ![0, 0] S512x128.size inb_S512x128_S512x128_0_0).toLoadRect (harg6.unread x3)) (View.readAt (Elt Ideal) arg6.view (Rect.unit (s := S512x128) ![0, 0] S512x128.size inb_S512x128_S512x128_0_0).toLoadRect (harg6.unread x3))
  (harg4.unread x1) (harg5.unread x2) (harg7.unread x4)
  (k0_pay53, k0_pay54, k0_pay55, k0_pay53, k0_pay54, k0_pay55, k0_pay53, k0_pay54, k0_pay55, k0_pay53, k0_pay54, k0_pay55) (Scf.trips (k0_t1_loop (grid0.coords t)).lb (k0_t1_loop (grid0.coords t)).ub (k0_t1_loop (grid0.coords t)).st)

theorem trips2' : Scf.trips (k0_t2_loop (grid0.coords t)).lb (k0_t2_loop (grid0.coords t)).ub (k0_t2_loop (grid0.coords t)).st = 0 := trips2 t

theorem c9 : kernelRun0_A.sl.r_9 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).1 := by
  unfold kernelRun0_A.sl.r_9
  exact rfl
theorem c10 : kernelRun0_A.sl.r_10 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.1 := by
  unfold kernelRun0_A.sl.r_10
  exact rfl
theorem c11 : kernelRun0_A.sl.r_11 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.1 := by
  unfold kernelRun0_A.sl.r_11
  exact rfl
theorem c12 : kernelRun0_A.sl.r_12 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.1 := by
  unfold kernelRun0_A.sl.r_12
  exact rfl
theorem c13 : kernelRun0_A.sl.r_13 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.1 := by
  unfold kernelRun0_A.sl.r_13
  exact rfl
theorem c14 : kernelRun0_A.sl.r_14 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.1 := by
  unfold kernelRun0_A.sl.r_14
  exact rfl
theorem c15 : kernelRun0_A.sl.r_15 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.1 := by
  unfold kernelRun0_A.sl.r_15
  exact rfl
theorem c16 : kernelRun0_A.sl.r_16 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.1 := by
  unfold kernelRun0_A.sl.r_16
  exact rfl
theorem c17 : kernelRun0_A.sl.r_17 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.1 := by
  unfold kernelRun0_A.sl.r_17
  exact rfl
theorem c18 : kernelRun0_A.sl.r_18 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.2.1 := by
  unfold kernelRun0_A.sl.r_18
  exact rfl
theorem c19 : kernelRun0_A.sl.r_19 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.2.2.1 := by
  unfold kernelRun0_A.sl.r_19
  exact rfl
theorem c20 : kernelRun0_A.sl.r_20 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.2.2.2 := by
  unfold kernelRun0_A.sl.r_20
  exact rfl
theorem c21 : kernelRun0_A.sl.r_21 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.1 := by
  unfold kernelRun0_A.sl.r_21
  rw [trips2', st_k0_t2_zero]
  exact c12 ..
theorem c22 : kernelRun0_A.sl.r_22 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.1 := by
  unfold kernelRun0_A.sl.r_22
  rw [trips2', st_k0_t2_zero]
  exact c13 ..
theorem c23 : kernelRun0_A.sl.r_23 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.1 := by
  unfold kernelRun0_A.sl.r_23
  rw [trips2', st_k0_t2_zero]
  exact c14 ..
theorem c24 : kernelRun0_A.sl.r_24 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.1 := by
  unfold kernelRun0_A.sl.r_24
  rw [trips2', st_k0_t2_zero]
  exact c15 ..
theorem c25 : kernelRun0_A.sl.r_25 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.1 := by
  unfold kernelRun0_A.sl.r_25
  rw [trips2', st_k0_t2_zero]
  exact c16 ..
theorem c26 : kernelRun0_A.sl.r_26 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.1 := by
  unfold kernelRun0_A.sl.r_26
  rw [trips2', st_k0_t2_zero]
  exact c17 ..
theorem c27 : kernelRun0_A.sl.r_27 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.2.1 := by
  unfold kernelRun0_A.sl.r_27
  rw [trips2', st_k0_t2_zero]
  exact c18 ..
theorem c28 : kernelRun0_A.sl.r_28 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.2.2.1 := by
  unfold kernelRun0_A.sl.r_28
  rw [trips2', st_k0_t2_zero]
  exact c19 ..
theorem c29 : kernelRun0_A.sl.r_29 (F := Ideal) c (grid0.coords t) arg3 harg3 arg4 harg4 arg5 harg5 arg6 harg6 arg7 harg7 arg8 harg8 x0 x1 x2 x3 x4 = (st1 x0 x1 x2 x3 x4 c t arg3 harg3 arg4 harg4 arg5 harg5 arg6 harg6 arg7 harg7 arg8 harg8).2.2.2.2.2.2.2.2.2.2.2 := by
  unfold kernelRun0_A.sl.r_29
  rw [trips2', st_k0_t2_zero]
  exact c20 ..

/-- What head 0 stores, in the row update's terms. -/
theorem st0_eq : k0_pay76 (kernelRun0_A.sl.r_30 (F := Ideal) c (grid0.coords t) arg3 harg3 arg4 harg4 arg5 harg5 arg6 harg6 arg7 harg7 arg8 harg8 x0 x1 x2 x3 x4) (kernelRun0_A.sl.r_31 (F := Ideal) c (grid0.coords t) arg3 harg3 arg4 harg4 arg5 harg5 arg6 harg6 arg7 harg7 arg8 harg8 x0 x1 x2 x3 x4) (kernelRun0_A.sl.r_32 (F := Ideal) c (grid0.coords t) arg3 harg3 arg4 harg4 arg5 harg5 arg6 harg6 arg7 harg7 arg8 harg8 x0 x1 x2 x3 x4)
    = qt (ac (st1 x0 x1 x2 x3 x4 c t arg3 harg3 arg4 harg4 arg5 harg5 arg6 harg6 arg7 harg7 arg8 harg8).1 (st1 x0 x1 x2 x3 x4 c t arg3 harg3 arg4 harg4 arg5 harg5 arg6 harg6 arg7 harg7 arg8 harg8).2.2.1 (low (k0_pay2 (kernelRun0_A.sl.r (F := Ideal) c arg3 harg3 x0) (kernelRun0_A.sl.r_4 (F := Ideal) c (grid0.coords t) arg6 harg6 x3) (kbk arg4 (harg4.unread x1) (k0_off11 (grid0.coords t)) (k0_off11_inb (grid0.coords t))) (ctk arg7 (harg7.unread x4) (k0_off12 (grid0.coords t) 0#32) (k0_off12_inb (grid0.coords t) 0))))
        (kbk arg5 (harg5.unread x2) (k0_off11 (grid0.coords t)) (k0_off11_inb (grid0.coords t))))
      (sm (st1 x0 x1 x2 x3 x4 c t arg3 harg3 arg4 harg4 arg5 harg5 arg6 harg6 arg7 harg7 arg8 harg8).1 (st1 x0 x1 x2 x3 x4 c t arg3 harg3 arg4 harg4 arg5 harg5 arg6 harg6 arg7 harg7 arg8 harg8).2.1 (low (k0_pay2 (kernelRun0_A.sl.r (F := Ideal) c arg3 harg3 x0) (kernelRun0_A.sl.r_4 (F := Ideal) c (grid0.coords t) arg6 harg6 x3) (kbk arg4 (harg4.unread x1) (k0_off11 (grid0.coords t)) (k0_off11_inb (grid0.coords t))) (ctk arg7 (harg7.unread x4) (k0_off12 (grid0.coords t) 0#32) (k0_off12_inb (grid0.coords t) 0))))) := by
  unfold kernelRun0_A.sl.r_30 kernelRun0_A.sl.r_31 kernelRun0_A.sl.r_32
  rw [trips2', st_k0_t2_zero, c9, c10, c11]
  exact stored0 ..

/-- What head 1 stores, in the row update's terms. -/
theorem st1_eq : k0_pay83 (kernelRun0_A.sl.r_33 (F := Ideal) c (grid0.coords t) arg3 harg3 arg4 harg4 arg5 harg5 arg6 harg6 arg7 harg7 arg8 harg8 x0 x1 x2 x3 x4) (kernelRun0_A.sl.r_34 (F := Ideal) c (grid0.coords t) arg3 harg3 arg4 harg4 arg5 harg5 arg6 harg6 arg7 harg7 arg8 harg8 x0 x1 x2 x3 x4) (kernelRun0_A.sl.r_35 (F := Ideal) c (grid0.coords t) arg3 harg3 arg4 harg4 arg5 harg5 arg6 harg6 arg7 harg7 arg8 harg8 x0 x1 x2 x3 x4) (kernelRun0_A.sl.r_36 (F := Ideal) (grid0.coords t) arg5 harg5 x2)
    = qt (ac (st1 x0 x1 x2 x3 x4 c t arg3 harg3 arg4 harg4 arg5 harg5 arg6 harg6 arg7 harg7 arg8 harg8).2.2.2.1 (st1 x0 x1 x2 x3 x4 c t arg3 harg3 arg4 harg4 arg5 harg5 arg6 harg6 arg7 harg7 arg8 harg8).2.2.2.2.2.1 (low (k0_pay2 (kernelRun0_A.sl.r_1 (F := Ideal) c arg3 harg3 x0) (k0_pay50 (kernelRun0_A.sl.r_5 (F := Ideal) c (grid0.coords t) arg6 harg6 x3) kernelRun0_A.sl.cst_15) (kbk arg4 (harg4.unread x1) (k0_off13 (grid0.coords t)) (k0_off13_inb (grid0.coords t))) (ctk arg7 (harg7.unread x4) (k0_off12 (grid0.coords t) 1#32) (k0_off12_inb (grid0.coords t) 1))))
        (kbk arg5 (harg5.unread x2) (k0_off13 (grid0.coords t)) (k0_off13_inb (grid0.coords t))))
      (sm (st1 x0 x1 x2 x3 x4 c t arg3 harg3 arg4 harg4 arg5 harg5 arg6 harg6 arg7 harg7 arg8 harg8).2.2.2.1 (st1 x0 x1 x2 x3 x4 c t arg3 harg3 arg4 harg4 arg5 harg5 arg6 harg6 arg7 harg7 arg8 harg8).2.2.2.2.1 (low (k0_pay2 (kernelRun0_A.sl.r_1 (F := Ideal) c arg3 harg3 x0) (k0_pay50 (kernelRun0_A.sl.r_5 (F := Ideal) c (grid0.coords t) arg6 harg6 x3) kernelRun0_A.sl.cst_15) (kbk arg4 (harg4.unread x1) (k0_off13 (grid0.coords t)) (k0_off13_inb (grid0.coords t))) (ctk arg7 (harg7.unread x4) (k0_off12 (grid0.coords t) 1#32) (k0_off12_inb (grid0.coords t) 1))))) := by
  unfold kernelRun0_A.sl.r_33 kernelRun0_A.sl.r_34 kernelRun0_A.sl.r_35 kernelRun0_A.sl.r_36 kernelRun0_A.sl.r_6
  rw [c21, c22, c23]
  exact stored1 ..

/-- What head 2 stores, in the row update's terms. -/
theorem st2_eq : k0_pay90 (kernelRun0_A.sl.r_26 (F := Ideal) c (grid0.coords t) arg3 harg3 arg4 harg4 arg5 harg5 arg6 harg6 arg7 harg7 arg8 harg8 x0 x1 x2 x3 x4) (kernelRun0_A.sl.r_37 (F := Ideal) c (grid0.coords t) arg3 harg3 arg4 harg4 arg5 harg5 arg6 harg6 arg7 harg7 arg8 harg8 x0 x1 x2 x3 x4) (kernelRun0_A.sl.r_38 (F := Ideal) c (grid0.coords t) arg3 harg3 arg4 harg4 arg5 harg5 arg6 harg6 arg7 harg7 arg8 harg8 x0 x1 x2 x3 x4) (kernelRun0_A.sl.r_39 (F := Ideal) c (grid0.coords t) arg3 harg3 arg4 harg4 arg5 harg5 arg6 harg6 arg7 harg7 arg8 harg8 x0 x1 x2 x3 x4) (kbk arg5 (harg5.unread x2) (k0_off14 (grid0.coords t)) (k0_off14_inb (grid0.coords t)))
    = qt (ac (st1 x0 x1 x2 x3 x4 c t arg3 harg3 arg4 harg4 arg5 harg5 arg6 harg6 arg7 harg7 arg8 harg8).2.2.2.2.2.2.1 (st1 x0 x1 x2 x3 x4 c t arg3 harg3 arg4 harg4 arg5 harg5 arg6 harg6 arg7 harg7 arg8 harg8).2.2.2.2.2.2.2.2.1 (low (k0_pay2 (kernelRun0_A.sl.r_2 (F := Ideal) c arg3 harg3 x0) (k0_pay51 (F := Ideal) (BitVec.ofNat 32 (grid0.coords t 1).val) kernelRun0_A.sl.v0 (View.readAt (Elt Ideal) arg6.view (Rect.unit (s := S512x128) ![0, 0] S512x128.size inb_S512x128_S512x128_0_0).toLoadRect (harg6.unread x3))) (kbk arg4 (harg4.unread x1) (k0_off14 (grid0.coords t)) (k0_off14_inb (grid0.coords t))) (ctk arg7 (harg7.unread x4) (k0_off12 (grid0.coords t) 2#32) (k0_off12_inb (grid0.coords t) 2))))
        (kbk arg5 (harg5.unread x2) (k0_off14 (grid0.coords t)) (k0_off14_inb (grid0.coords t))))
      (sm (st1 x0 x1 x2 x3 x4 c t arg3 harg3 arg4 harg4 arg5 harg5 arg6 harg6 arg7 harg7 arg8 harg8).2.2.2.2.2.2.1 (st1 x0 x1 x2 x3 x4 c t arg3 harg3 arg4 harg4 arg5 harg5 arg6 harg6 arg7 harg7 arg8 harg8).2.2.2.2.2.2.2.1 (low (k0_pay2 (kernelRun0_A.sl.r_2 (F := Ideal) c arg3 harg3 x0) (k0_pay51 (F := Ideal) (BitVec.ofNat 32 (grid0.coords t 1).val) kernelRun0_A.sl.v0 (View.readAt (Elt Ideal) arg6.view (Rect.unit (s := S512x128) ![0, 0] S512x128.size inb_S512x128_S512x128_0_0).toLoadRect (harg6.unread x3))) (kbk arg4 (harg4.unread x1) (k0_off14 (grid0.coords t)) (k0_off14_inb (grid0.coords t))) (ctk arg7 (harg7.unread x4) (k0_off12 (grid0.coords t) 2#32) (k0_off12_inb (grid0.coords t) 2))))) := by
  unfold kernelRun0_A.sl.r_37 kernelRun0_A.sl.r_38 kernelRun0_A.sl.r_39 kernelRun0_A.sl.r_7
  rw [c24, c25, c26]
  exact stored2 ..

/-- What head 3 stores, in the row update's terms. -/
theorem st3_eq : k0_pay1 (kernelRun0_A.sl.r_29 (F := Ideal) c (grid0.coords t) arg3 harg3 arg4 harg4 arg5 harg5 arg6 harg6 arg7 harg7 arg8 harg8 x0 x1 x2 x3 x4) (kernelRun0_A.sl.r_40 (F := Ideal) c (grid0.coords t) arg3 harg3 arg4 harg4 arg5 harg5 arg6 harg6 arg7 harg7 arg8 harg8 x0 x1 x2 x3 x4) (kernelRun0_A.sl.r_41 (F := Ideal) c (grid0.coords t) arg3 harg3 arg4 harg4 arg5 harg5 arg6 harg6 arg7 harg7 arg8 harg8 x0 x1 x2 x3 x4) (kernelRun0_A.sl.r_42 (F := Ideal) c (grid0.coords t) arg3 harg3 arg4 harg4 arg5 harg5 arg6 harg6 arg7 harg7 arg8 harg8 x0 x1 x2 x3 x4) (kbk arg5 (harg5.unread x2) (k0_off15 (grid0.coords t)) (k0_off15_inb (grid0.coords t)))
    = qt (ac (st1 x0 x1 x2 x3 x4 c t arg3 harg3 arg4 harg4 arg5 harg5 arg6 harg6 arg7 harg7 arg8 harg8).2.2.2.2.2.2.2.2.2.1 (st1 x0 x1 x2 x3 x4 c t arg3 harg3 arg4 harg4 arg5 harg5 arg6 harg6 arg7 harg7 arg8 harg8).2.2.2.2.2.2.2.2.2.2.2 (low (k0_pay2 (kernelRun0_A.sl.r_3 (F := Ideal) c arg3 harg3 x0) (k0_pay52 (F := Ideal) (BitVec.ofNat 32 (grid0.coords t 1).val) kernelRun0_A.sl.v0 (View.readAt (Elt Ideal) arg6.view (Rect.unit (s := S512x128) ![0, 0] S512x128.size inb_S512x128_S512x128_0_0).toLoadRect (harg6.unread x3))) (kbk arg4 (harg4.unread x1) (k0_off15 (grid0.coords t)) (k0_off15_inb (grid0.coords t))) (ctk arg7 (harg7.unread x4) (k0_off12 (grid0.coords t) 3#32) (k0_off12_inb (grid0.coords t) 3))))
        (kbk arg5 (harg5.unread x2) (k0_off15 (grid0.coords t)) (k0_off15_inb (grid0.coords t))))
      (sm (st1 x0 x1 x2 x3 x4 c t arg3 harg3 arg4 harg4 arg5 harg5 arg6 harg6 arg7 harg7 arg8 harg8).2.2.2.2.2.2.2.2.2.1 (st1 x0 x1 x2 x3 x4 c t arg3 harg3 arg4 harg4 arg5 harg5 arg6 harg6 arg7 harg7 arg8 harg8).2.2.2.2.2.2.2.2.2.2.1 (low (k0_pay2 (kernelRun0_A.sl.r_3 (F := Ideal) c arg3 harg3 x0) (k0_pay52 (F := Ideal) (BitVec.ofNat 32 (grid0.coords t 1).val) kernelRun0_A.sl.v0 (View.readAt (Elt Ideal) arg6.view (Rect.unit (s := S512x128) ![0, 0] S512x128.size inb_S512x128_S512x128_0_0).toLoadRect (harg6.unread x3))) (kbk arg4 (harg4.unread x1) (k0_off15 (grid0.coords t)) (k0_off15_inb (grid0.coords t))) (ctk arg7 (harg7.unread x4) (k0_off12 (grid0.coords t) 3#32) (k0_off12_inb (grid0.coords t) 3))))) := by
  unfold kernelRun0_A.sl.r_40 kernelRun0_A.sl.r_41 kernelRun0_A.sl.r_42 kernelRun0_A.sl.r_8
  rw [c27, c28, c29]
  exact stored3 ..

/-- The four heads' states before the diagonal's block. -/
theorem st1_inv : Inv4 (fun h => bu x0 x1 x3 x4 (hd t h) h (qb t)) (bw x2) (512 * (qb t).val) (st1 x0 x1 x2 x3 x4 c t arg3 harg3 arg4 harg4 arg5 harg5 arg6 harg6 arg7 harg7 arg8 harg8) := by
  have h := loop_inv (x0 := x0) (x1 := x1) (x2 := x2) (x3 := x3) (x4 := x4) c t arg3 harg3 arg4 harg4 arg5 harg5 arg6 harg6 arg7 harg7 arg8 harg8 (BitVec.ofNat 32 (grid0.coords t 1).val)
    (BitVec.ofNat 32 (grid0.coords t 2).val) kernelRun0_A.sl.v0 _ _ _ _ _ _ kernelRun0_A.sl.cst_15 _ _
    (q0_at x0 c arg3 harg3) (q1_at x0 c arg3 harg3) (q2_at x0 c arg3 harg3) (q3_at x0 c arg3 harg3)
    (c0_at x3 c t arg6 harg6) (c1_at x3 c t arg6 harg6) (c2_at x3 t arg6 harg6) (c3_at x3 t arg6 harg6) _ le_rfl
  rw [congrArg (512 * ·) (trips1 t)] at h
  exact h

/-- A row and a column of the output, its head and the head's column. -/
theorem hv_cast (h : Fin 4) (y : S512x512.Idx) (x : S512x128.Idx) (h0 : (y 0).val = (x 0).val) (h1 : (y 1).val = h.val * 128 + (x 1).val) :
    hv x0 x1 x2 x3 x4 t ⟨(y 1).val / 128, by have : (y 1).val < 512 := (y 1).isLt; omega⟩ (y 0) ⟨(y 1).val % 128, by omega⟩
      = hv x0 x1 x2 x3 x4 t h (x 0) (x 1) := by
  have hx : (x 1).val < 128 := (x 1).isLt
  rw [show (⟨(y 1).val / 128, by have : (y 1).val < 512 := (y 1).isLt; omega⟩ : Fin 4) = h from Fin.ext (by show (y 1).val / 128 = h.val; omega),
    show (⟨(y 1).val % 128, by omega⟩ : Fin 128) = x 1 from Fin.ext (by show (y 1).val % 128 = (x 1).val; omega),
    show (y 0 : Fin 512) = x 0 from Fin.ext h0]

/-- A pair of coordinates is its index. -/
theorem eta (x : S512x128.Idx) : x = ix2 (x 0) (x 1) := by
  funext a
  match a with
  | ⟨0, _⟩ => rfl
  | ⟨1, _⟩ => rfl

theorem piece0 (y : S512x512.Idx) (x : S512x128.Idx) (h0 : (y 0).val = (x 0).val) (h1 : (y 1).val = (0 : Fin 4).val * 128 + (x 1).val) :
    k0_pay76 (kernelRun0_A.sl.r_30 (F := Ideal) c (grid0.coords t) arg3 harg3 arg4 harg4 arg5 harg5 arg6 harg6 arg7 harg7 arg8 harg8 x0 x1 x2 x3 x4) (kernelRun0_A.sl.r_31 (F := Ideal) c (grid0.coords t) arg3 harg3 arg4 harg4 arg5 harg5 arg6 harg6 arg7 harg7 arg8 harg8 x0 x1 x2 x3 x4) (kernelRun0_A.sl.r_32 (F := Ideal) c (grid0.coords t) arg3 harg3 arg4 harg4 arg5 harg5 arg6 harg6 arg7 harg7 arg8 harg8 x0 x1 x2 x3 x4) x
      = hv x0 x1 x2 x3 x4 t ⟨(y 1).val / 128, by have : (y 1).val < 512 := (y 1).isLt; omega⟩ (y 0) ⟨(y 1).val % 128, by omega⟩ := by
  have o := offd t
  rw [hv_cast x0 x1 x2 x3 x4 t 0 y x h0 h1, st0_eq, eta x]
  exact head_last harg4 harg5 harg7 (q0_at x0 c arg3 harg3) (c0_at x3 c t arg6 harg6) o.1 o.2.2.2.2.1 (st1_inv x0 x1 x2 x3 x4 c t arg3 harg3 arg4 harg4 arg5 harg5 arg6 harg6 arg7 harg7 arg8 harg8).1 (x 0) (x 1)

theorem piece1 (y : S512x512.Idx) (x : S512x128.Idx) (h0 : (y 0).val = (x 0).val) (h1 : (y 1).val = (1 : Fin 4).val * 128 + (x 1).val) :
    k0_pay83 (kernelRun0_A.sl.r_33 (F := Ideal) c (grid0.coords t) arg3 harg3 arg4 harg4 arg5 harg5 arg6 harg6 arg7 harg7 arg8 harg8 x0 x1 x2 x3 x4) (kernelRun0_A.sl.r_34 (F := Ideal) c (grid0.coords t) arg3 harg3 arg4 harg4 arg5 harg5 arg6 harg6 arg7 harg7 arg8 harg8 x0 x1 x2 x3 x4) (kernelRun0_A.sl.r_35 (F := Ideal) c (grid0.coords t) arg3 harg3 arg4 harg4 arg5 harg5 arg6 harg6 arg7 harg7 arg8 harg8 x0 x1 x2 x3 x4) (kernelRun0_A.sl.r_36 (F := Ideal) (grid0.coords t) arg5 harg5 x2) x
      = hv x0 x1 x2 x3 x4 t ⟨(y 1).val / 128, by have : (y 1).val < 512 := (y 1).isLt; omega⟩ (y 0) ⟨(y 1).val % 128, by omega⟩ := by
  have o := offd t
  rw [hv_cast x0 x1 x2 x3 x4 t 1 y x h0 h1, st1_eq, eta x]
  exact head_last harg4 harg5 harg7 (q1_at x0 c arg3 harg3) (c1_at x3 c t arg6 harg6) o.2.1 o.2.2.2.2.2.1 (st1_inv x0 x1 x2 x3 x4 c t arg3 harg3 arg4 harg4 arg5 harg5 arg6 harg6 arg7 harg7 arg8 harg8).2.1 (x 0) (x 1)

theorem piece2 (y : S512x512.Idx) (x : S512x128.Idx) (h0 : (y 0).val = (x 0).val) (h1 : (y 1).val = (2 : Fin 4).val * 128 + (x 1).val) :
    k0_pay90 (kernelRun0_A.sl.r_26 (F := Ideal) c (grid0.coords t) arg3 harg3 arg4 harg4 arg5 harg5 arg6 harg6 arg7 harg7 arg8 harg8 x0 x1 x2 x3 x4) (kernelRun0_A.sl.r_37 (F := Ideal) c (grid0.coords t) arg3 harg3 arg4 harg4 arg5 harg5 arg6 harg6 arg7 harg7 arg8 harg8 x0 x1 x2 x3 x4) (kernelRun0_A.sl.r_38 (F := Ideal) c (grid0.coords t) arg3 harg3 arg4 harg4 arg5 harg5 arg6 harg6 arg7 harg7 arg8 harg8 x0 x1 x2 x3 x4) (kernelRun0_A.sl.r_39 (F := Ideal) c (grid0.coords t) arg3 harg3 arg4 harg4 arg5 harg5 arg6 harg6 arg7 harg7 arg8 harg8 x0 x1 x2 x3 x4) (kbk arg5 (harg5.unread x2) (k0_off14 (grid0.coords t)) (k0_off14_inb (grid0.coords t))) x
      = hv x0 x1 x2 x3 x4 t ⟨(y 1).val / 128, by have : (y 1).val < 512 := (y 1).isLt; omega⟩ (y 0) ⟨(y 1).val % 128, by omega⟩ := by
  have o := offd t
  rw [hv_cast x0 x1 x2 x3 x4 t 2 y x h0 h1, st2_eq, eta x]
  exact head_last harg4 harg5 harg7 (q2_at x0 c arg3 harg3) (c2_at x3 t arg6 harg6) o.2.2.1 o.2.2.2.2.2.2.1 (st1_inv x0 x1 x2 x3 x4 c t arg3 harg3 arg4 harg4 arg5 harg5 arg6 harg6 arg7 harg7 arg8 harg8).2.2.1 (x 0) (x 1)

theorem piece3 (y : S512x512.Idx) (x : S512x128.Idx) (h0 : (y 0).val = (x 0).val) (h1 : (y 1).val = (3 : Fin 4).val * 128 + (x 1).val) :
    k0_pay1 (kernelRun0_A.sl.r_29 (F := Ideal) c (grid0.coords t) arg3 harg3 arg4 harg4 arg5 harg5 arg6 harg6 arg7 harg7 arg8 harg8 x0 x1 x2 x3 x4) (kernelRun0_A.sl.r_40 (F := Ideal) c (grid0.coords t) arg3 harg3 arg4 harg4 arg5 harg5 arg6 harg6 arg7 harg7 arg8 harg8 x0 x1 x2 x3 x4) (kernelRun0_A.sl.r_41 (F := Ideal) c (grid0.coords t) arg3 harg3 arg4 harg4 arg5 harg5 arg6 harg6 arg7 harg7 arg8 harg8 x0 x1 x2 x3 x4) (kernelRun0_A.sl.r_42 (F := Ideal) c (grid0.coords t) arg3 harg3 arg4 harg4 arg5 harg5 arg6 harg6 arg7 harg7 arg8 harg8 x0 x1 x2 x3 x4) (kbk arg5 (harg5.unread x2) (k0_off15 (grid0.coords t)) (k0_off15_inb (grid0.coords t))) x
      = hv x0 x1 x2 x3 x4 t ⟨(y 1).val / 128, by have : (y 1).val < 512 := (y 1).isLt; omega⟩ (y 0) ⟨(y 1).val % 128, by omega⟩ := by
  have o := offd t
  rw [hv_cast x0 x1 x2 x3 x4 t 3 y x h0 h1, st3_eq, eta x]
  exact head_last harg4 harg5 harg7 (q3_at x0 c arg3 harg3) (c3_at x3 t arg6 harg6) o.2.2.2.1 o.2.2.2.2.2.2.2 (st1_inv x0 x1 x2 x3 x4 c t arg3 harg3 arg4 harg4 arg5 harg5 arg6 harg6 arg7 harg7 arg8 harg8).2.2.2 (x 0) (x 1)

/-- What a point stores, over the blocks it reads. -/
theorem out_at (y : S512x512.Idx) :
    out0_A_5 (F := Ideal) c (grid0.coords t) arg3 harg3 arg4 harg4 arg5 harg5 arg6 harg6 arg7 harg7 arg8 harg8 x0 x1 x2 x3 x4 y
      = hv x0 x1 x2 x3 x4 t ⟨(y 1).val / 128, by have : (y 1).val < 512 := (y 1).isLt; omega⟩ (y 0) ⟨(y 1).val % 128, by omega⟩ := by
  delta out0_A_5 kernelRun0_A
  dsimp only
  rw [View.read_writes_eq_canon _ _ _ fun z => View.cover_of_tiled_head _ _ _ (by rfl) z]
  canon_tiles x h
  · exact piece3 x0 x1 x2 x3 x4 c t arg3 harg3 arg4 harg4 arg5 harg5 arg6 harg6 arg7 harg7 arg8 harg8 y x h0 h1
  · exact piece2 x0 x1 x2 x3 x4 c t arg3 harg3 arg4 harg4 arg5 harg5 arg6 harg6 arg7 harg7 arg8 harg8 y x h0 h1
  · exact piece1 x0 x1 x2 x3 x4 c t arg3 harg3 arg4 harg4 arg5 harg5 arg6 harg6 arg7 harg7 arg8 harg8 y x h0 h1
  · exact piece0 x0 x1 x2 x3 x4 c t arg3 harg3 arg4 harg4 arg5 harg5 arg6 harg6 arg7 harg7 arg8 harg8 y x h0 (h1.trans (Nat.zero_add _).symm)

end out

end Cert.Kernel7Ideal.Fox

end
-- ==== Proof.FoxRef.lean ====
/- The attention's reference at an index: the rows' weighted means over the scores. -/
module

public import proofs.«01_k».proof.Proof.Soft
public import proofs.«01_k».proof.Proof.Gen.Reference7Ideal.Run
public import proofs.«01_k».proof.Proof.Gen.Reference7Ideal.Read
public import Idealize.ShloMosaic.Lib.Pipeline.ValueKit
public import Idealize.ShloMosaic.Lib.WordCmp

@[expose] public section

set_option maxRecDepth 16384

noncomputable section

namespace Cert.Reference7Ideal.Fox

open Idealize.ShloMosaic Idealize.ShloMosaic.TcCoe Idealize.SL.Sem
open Cert.Reference7Ideal Cert.Reference7Ideal.Read
open Cert.Layer (top den num top_le)
open Idealize.ShloMosaic.WordCmp
open scoped BigOperators

variable (p : FVec Ideal S4x2048x6144 .bf16) (g : FVec Ideal S4x2048x128 .f32)

/-- A score. -/
def rs (b : Fin 4) (h : Fin 8) (q k : Fin 2048) : EReal :=
  (∑ d : Fin 128, (p (ix3 b q ⟨3072 + (h.val * 128 + d.val), by omega⟩) : EReal) * p (ix3 b k ⟨3072 + (1024 + (h.val * 128 + d.val)), by omega⟩)) * ((11863283 / 134217728 : ℝ) : EReal)
    + g (ix3 b q ⟨h.val, by omega⟩) - g (ix3 b k ⟨h.val, by omega⟩)

/-- A row's scores, none past the query's place. -/
def ru (b : Fin 4) (h : Fin 8) (q : Fin 2048) (k : ℕ) : EReal :=
  if hk : k ≤ q.val then rs p g b h q ⟨k, by omega⟩ else ⊥

/-- A column of the values. -/
def rv (b : Fin 4) (h : Fin 8) (d : Fin 128) (k : ℕ) : EReal :=
  if hk : k < 2048 then p (ix3 b ⟨k, hk⟩ ⟨3072 + (2048 + (h.val * 128 + d.val)), by omega⟩) else 0

theorem scale_bits : Ideal.ofBits .f32 0x3DB504F3#32 = ((11863283 / 134217728 : ℝ) : EReal) := by
  simp [Ideal.ofBits, Ideal.ieee]
  rw [← EReal.coe_mul]
  norm_num

theorem ninf : Ideal.ofBits .f32 0xFF800000#32 = ⊥ := by simp [Ideal.ofBits, Ideal.ieee]

theorem score_at (b : Fin 4) (h : Fin 8) (q k : Fin 2048) : val_main_v19 (F := Ideal) p g (ix4 b h q k) = rs p g b h q k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst]
  rw [scale_bits]
  rfl

theorem masked_at (b : Fin 4) (h : Fin 8) (q k : Fin 2048) : val_main_v26 (F := Ideal) p g (ix4 b h q k) = ru p g b h q k.val := by
  pointwise [val_main_v26, val_main_call0_v1, val_main_v25, val_main_v24, val_main_v23, val_main_v22, val_main_v21, val_main_v20, val_main_v10, val_main_call0_v2, val_main_call0_v0, val_main_cst_0]
  rw [score_at, cmpi_sle_ofNat (by omega) (by omega), select_ofBool, ru]
  by_cases hk : k.val ≤ q.val
  · rw [dif_pos hk, if_pos (decide_eq_true hk)]
  · rw [dif_neg hk, if_neg (by simpa using hk)]
    exact ninf

theorem max_at (b : Fin 4) (h : Fin 8) (q : Fin 2048) : val_main_v27 (F := Ideal) p g (ix3 b h q) = top (ru p g b h q) 2048 := by
  pointwise [val_main_v27, val_main_cst_1]
  rw [ninf]
  simp only [masked_at]
  refine le_antisymm ((Finset.fold_max_le _).2 ⟨bot_le, fun k _ => ?_⟩) (top_le.2 fun k hk => ?_)
  · exact Cert.Layer.le_top_of k.isLt
  · exact (Finset.le_fold_max _).2 (.inr ⟨⟨k, hk⟩, Finset.mem_univ _, le_rfl⟩)

theorem val_at (b : Fin 4) (k : Fin 2048) (h : Fin 8) (d : Fin 128) : val_main_v7 (F := Ideal) p (ix4 b k h d) = rv p b h d k.val := by
  pointwise [val_main_v7, val_main_v6, val_main_v5, val_main_v4, val_main_v3, val_main_v2, val_main_v1, val_main_v0]
  rw [rv, dif_pos k.isLt]

theorem peak_at (b : Fin 4) (h : Fin 8) (q : Fin 2048) : val_main_v29 (F := Ideal) p g (ix3 b h q) = top (ru p g b h q) 2048 := by
  rw [val_main_v29_apply, val_main_v28_apply, max_at]
  generalize top (ru p g b h q) 2048 = y
  show max (Ideal.ofBits .f32 0xFF800000#32) y = y
  rw [ninf, max_bot_left]

theorem exp_at (b : Fin 4) (h : Fin 8) (q k : Fin 2048) : val_main_v33 (F := Ideal) p g (ix4 b h q k)
    = Ideal.exp (ru p g b h q k.val - top (ru p g b h q) 2048) := by
  have e : idx_main_v30 (idx_main_v31 (ix4 b h q k)) = ix3 b h q := by
    funext a
    match a with
    | ⟨0, _⟩ => rfl
    | ⟨1, _⟩ => rfl
    | ⟨2, _⟩ => rfl
  rw [val_main_v33_apply, val_main_v32_apply, masked_at, val_main_v31_apply, val_main_v30_apply, e, peak_at]
  generalize top (ru p g b h q) 2048 = y
  generalize ru p g b h q k.val = x
  rfl

theorem total_at (b : Fin 4) (h : Fin 8) (q : Fin 2048) : val_main_v34 (F := Ideal) p g (ix3 b h q)
    = 0 + ∑ j : Fin 2048, Ideal.exp (ru p g b h q j.val - top (ru p g b h q) 2048) := by
  rw [val_main_v34_apply]
  refine congrArg₂ (· + ·) ?_ (Finset.sum_congr rfl fun k _ => ?_)
  · show Ideal.ofBits .f32 0x00000000#32 = 0
    simp [Ideal.ofBits, Ideal.ieee]
  · rw [← exp_at]
    refine congrArg _ (funext fun a => ?_)
    match a with
    | ⟨0, _⟩ => rfl
    | ⟨1, _⟩ => rfl
    | ⟨2, _⟩ => rfl
    | ⟨3, _⟩ => rfl

/-- A weight. -/
theorem weight_at (b : Fin 4) (h : Fin 8) (q k : Fin 2048) : val_main_v37 (F := Ideal) p g (ix4 b h q k)
    = Ideal.div (Ideal.exp (ru p g b h q k.val - top (ru p g b h q) 2048)) (0 + ∑ j : Fin 2048, Ideal.exp (ru p g b h q j.val - top (ru p g b h q) 2048)) := by
  have e : idx_main_v35 (idx_main_v36 (ix4 b h q k)) = ix3 b h q := by
    funext a
    match a with
    | ⟨0, _⟩ => rfl
    | ⟨1, _⟩ => rfl
    | ⟨2, _⟩ => rfl
  rw [val_main_v37_apply, exp_at, val_main_v36_apply, val_main_v35_apply, e, total_at]
  generalize (0 + ∑ j : Fin 2048, Ideal.exp (ru p g b h q j.val - top (ru p g b h q) 2048)) = y
  generalize Ideal.exp (ru p g b h q k.val - top (ru p g b h q) 2048) = x
  rfl

theorem mean_at (b : Fin 4) (h : Fin 8) (d : Fin 128) (q : Fin 2048) : val_main_v38 (F := Ideal) p g (ix4 b h d q)
    = ∑ k : Fin 2048, rv p b h d k.val * Ideal.div (Ideal.exp (ru p g b h q k.val - top (ru p g b h q) 2048))
        (0 + ∑ j : Fin 2048, Ideal.exp (ru p g b h q j.val - top (ru p g b h q) 2048)) := by
  rw [val_main_v38_apply]
  refine Finset.sum_congr rfl fun k _ => ?_
  have el : lidx_main_v38 (ix4 b h d q) k = ix4 b k h d := by
    funext a
    match a with
    | ⟨0, _⟩ => rfl
    | ⟨1, _⟩ => rfl
    | ⟨2, _⟩ => rfl
    | ⟨3, _⟩ => rfl
  have er : ridx_main_v38 (ix4 b h d q) k = ix4 b h q k := by
    funext a
    match a with
    | ⟨0, _⟩ => rfl
    | ⟨1, _⟩ => rfl
    | ⟨2, _⟩ => rfl
    | ⟨3, _⟩ => rfl
  rw [el, er, val_at, weight_at]

/-- The reference's result at a row and a column: the row's batch and query, the column's head and place. -/
theorem out_at (b : Fin 4) (h : Fin 8) (d : Fin 128) (q : Fin 2048) (i : S8192x1024.Idx) (hr : (i 0).val = b.val * 2048 + q.val) (hc : (i 1).val = h.val * 128 + d.val) :
    val_main_v41 (F := Ideal) p g i
      = ∑ k : Fin 2048, rv p b h d k.val * Ideal.div (Ideal.exp (ru p g b h q k.val - top (ru p g b h q) 2048))
          (0 + ∑ j : Fin 2048, Ideal.exp (ru p g b h q j.val - top (ru p g b h q) 2048)) := by
  rw [← mean_at]
  have e : idx_main_v39 (idx_main_v40 i) = ix4 b h d q := by
    funext a
    match a with
    | ⟨0, _⟩ => exact Fin.ext (by show ((i 0).val * 1024 + (i 1).val) / 2097152 = b.val; omega)
    | ⟨1, _⟩ => exact Fin.ext (by show ((i 0).val * 1024 + (i 1).val) / 128 % 8 = h.val; omega)
    | ⟨2, _⟩ => exact Fin.ext (by show ((i 0).val * 1024 + (i 1).val) % 128 = d.val; omega)
    | ⟨3, _⟩ => exact Fin.ext (by show ((i 0).val * 1024 + (i 1).val) / 1024 % 2048 = q.val; omega)
  rw [val_main_v41_apply, val_main_v40_apply, val_main_v39_apply, e]
  generalize val_main_v38 (F := Ideal) p g (ix4 b h d q) = x
  rfl

end Cert.Reference7Ideal.Fox

end
-- ==== Proof.FoxPre.lean ====
/- What the precondition says of the scores: none is infinite. -/
module

public import proofs.«01_k».proof.Pre_finite7
public import proofs.«01_k».proof.Proof.FoxRef
public import Idealize.ShloMosaic.Lib.ReduceAll
public import Idealize.ShloMosaic.Lib.Decide

@[expose] public section

set_option maxRecDepth 16384

noncomputable section

namespace Cert.Pre_finite7

/-- The predicate's shape relations. -/
theorem facts : Cert.Pre_finite7.Facts :=
  ⟨by decide, by decide, by decide, by decide, by decide, by decide, by decide, by decide⟩

end Cert.Pre_finite7

namespace Cert.Reference7Ideal.Fox

open Idealize.ShloMosaic Idealize.ShloMosaic.TcCoe Idealize.SL.Sem
open Cert.Reference7Ideal Cert.Reference7Ideal.Read
open Cert.Pre_finite7.Facts
open scoped BigOperators

theorem both : ∀ a b : BitVec 1, IntOp.andi a b = 1#1 → a = 1#1 ∧ b = 1#1 := by decide

theorem pinf : Ideal.ofBits .f32 0x7F800000#32 = ⊤ := by simp [Ideal.ofBits, Ideal.ieee]

/-- An element whose magnitude is below the infinity is a real. -/
theorem real_of_lt {x : EReal} (h : Ideal.cmp .olt (max x (-x)) ⊤ = 1#1) : ∃ a : ℝ, x = (a : EReal) := by
  have hl : max x (-x) < ⊤ := by
    by_contra hc
    simp [Ideal.cmp, hc] at h
  induction x using EReal.rec with
  | bot => simp at hl
  | top => simp at hl
  | coe a => exact ⟨a, rfl⟩

/-- A finite sum of reals, read among the extended ones. -/
theorem coe_sum {n : ℕ} (f : Fin n → ℝ) : ((∑ d : Fin n, f d : ℝ) : EReal) = ∑ d : Fin n, (f d : EReal) := by
  induction n with
  | zero => simp
  | succ n ih => rw [Fin.sum_univ_castSucc, Fin.sum_univ_castSucc, EReal.coe_add, ih]

section

variable [Cert.Pre_finite7.Facts]
variable {p : FVec Ideal S4x2048x6144 .bf16} {g : FVec Ideal S4x2048x128 .f32}

instance : Subsingleton Cert.Pre_finite7.S_.Idx := ⟨fun a b => funext fun i => i.elim0⟩

theorem halves (h : Cert.Pre_finite7.fn (F := Ideal) p g = fun _ => 1#1) :
    (∀ (b : Fin 4) (q : Fin 2048) (e : Fin 2048), ∃ a : ℝ, p (ix3 b q ⟨3072 + e.val, by omega⟩) = (a : EReal))
      ∧ ∀ (b : Fin 4) (q : Fin 2048) (e : Fin 8), ∃ a : ℝ, g (ix3 b q ⟨e.val, by omega⟩) = (a : EReal) := by
  have h0 := congrFun h (fun i => i.elim0)
  dsimp only [Cert.Pre_finite7.fn] at h0
  obtain ⟨h1, h2⟩ := both _ _ h0
  refine ⟨fun b q e => ?_, fun b q e => ?_⟩
  · have e1 := Host.reduce_andi_all _ _ _ _ _ h1 (ix3 b q e)
    refine real_of_lt (Eq.trans ?_ e1)
    rw [← pinf]
    pointwise
    rfl
  · have e1 := Host.reduce_andi_all _ _ _ _ _ h2 (ix3 b q e)
    refine real_of_lt (Eq.trans ?_ e1)
    rw [← pinf]
    pointwise
    rfl

theorem score_real (h : Cert.Pre_finite7.fn (F := Ideal) p g = fun _ => 1#1) (b : Fin 4) (e : Fin 8) (q k : Fin 2048) : ∃ a : ℝ, rs p g b e q k = (a : EReal) := by
  obtain ⟨hp, hg⟩ := halves h
  choose P hP using hp
  choose G hG using hg
  have hs : (∑ d : Fin 128, (p (ix3 b q ⟨3072 + (e.val * 128 + d.val), by omega⟩) : EReal) * p (ix3 b k ⟨3072 + (1024 + (e.val * 128 + d.val)), by omega⟩))
      = ((∑ d : Fin 128, P b q ⟨e.val * 128 + d.val, by omega⟩ * P b k ⟨1024 + (e.val * 128 + d.val), by omega⟩ : ℝ) : EReal) := by
    rw [coe_sum]
    refine Finset.sum_congr rfl fun d _ => ?_
    rw [EReal.coe_mul, ← hP, ← hP]
  refine ⟨(∑ d : Fin 128, P b q ⟨e.val * 128 + d.val, by omega⟩ * P b k ⟨1024 + (e.val * 128 + d.val), by omega⟩) * (11863283 / 134217728) + G b q e - G b k e, ?_⟩
  rw [rs, hs, hG, hG, EReal.coe_sub, EReal.coe_add, EReal.coe_mul]

theorem ru_ne_top (h : Cert.Pre_finite7.fn (F := Ideal) p g = fun _ => 1#1) (b : Fin 4) (e : Fin 8) (q : Fin 2048) (k : ℕ) : ru p g b e q k ≠ ⊤ := by
  unfold ru
  split
  · obtain ⟨a, ha⟩ := score_real h b e q _
    rw [ha]
    exact EReal.coe_ne_top a
  · exact bot_ne_top

theorem ru_ne_bot (h : Cert.Pre_finite7.fn (F := Ideal) p g = fun _ => 1#1) (b : Fin 4) (e : Fin 8) (q : Fin 2048) : ru p g b e q q.val ≠ ⊥ := by
  rw [ru, dif_pos le_rfl]
  obtain ⟨a, ha⟩ := score_real h b e q _
  rw [ha]
  exact EReal.coe_ne_bot a

end

end Cert.Reference7Ideal.Fox

end
-- ==== Proof.FoxVal.lean ====
/- The attention at the exact reals: after the run the output array is the reference's result. -/
module

public import Idealize.ShloMosaic.Lib.Pipeline.ReadBack
public import proofs.«01_k».proof.Proof.Gen.Kernel7Ideal.Value
public import proofs.«01_k».proof.Proof.FoxRun
public import proofs.«01_k».proof.Proof.FoxPre
public import Idealize.ShloMosaic.Lib.Pipeline.ValueKit
public import Idealize.ShloMosaic.Lib.Claim

@[expose] public section

set_option maxRecDepth 16384

noncomputable section

namespace Cert.Kernel7Ideal.Fox

open Idealize.ShloMosaic Idealize.ShloMosaic.TcCoe Idealize.SL.Sem
open Idealize.ShloMosaic.Pipeline (Dat)
open Cert.Kernel7Ideal Cert.Kernel7Ideal.Gen
open Cert.Layer (soft_eq)
open Cert.Reference7Ideal.Fox (rs ru rv ru_ne_top ru_ne_bot)
open scoped BigOperators

variable (m : (ℓ : Loc nD τ sig) → Buf (Elt Ideal) ℓ)

/-- The windows' block indices. -/
theorem idx : ∀ t : Fin cfg0.N, win0_0.index t = ![t.val / 8 * 4 + t.val % 4, 6 + t.val / 4 % 2]
    ∧ win0_1.index t = ![t.val / 8, 8 + t.val / 4 % 2] ∧ win0_2.index t = ![t.val / 8, 10 + t.val / 4 % 2]
    ∧ win0_3.index t = ![t.val / 8 * 4 + t.val % 4, 0] ∧ win0_4.index t = ![t.val / 8, 0, 0]
    ∧ win0_5.index t = ![t.val / 8 * 4 + t.val % 4, t.val / 4 % 2] :=
  (by decide +kernel : ∀ t : Fin grid0.N, _)

/-- The reference's result over the arguments. -/
abbrev REF (p : FVec Ideal S4x2048x6144 .bf16) (g : FVec Ideal S4x2048x128 .f32) : FVec Ideal S8192x1024 .bf16 :=
  Cert.Reference7Ideal.Read.val_main_v41 (F := Ideal) p g

/-- The projections at an index, the row index split. -/
theorem p_at (c : Dev nD) (i : S8192x6144.Idx) : V m c main_v0 i
    = m ((c : Thread nD τ).loc main_arg0) (ix3 ⟨i 0 / 2048, by have : (i 0).val < 8192 := (i 0).isLt; omega⟩ ⟨i 0 % 2048, by omega⟩ (i 1)) := by
  entry_read
  idx_vars i
  pointwise

/-- The sums of the gates' logarithms at an index, the row index split. -/
theorem g_at (c : Dev nD) (i : S8192x128.Idx) : V m c main_v1 i
    = m ((c : Thread nD τ).loc main_arg1) (ix3 ⟨i 0 / 2048, by have : (i 0).val < 8192 := (i 0).isLt; omega⟩ ⟨i 0 % 2048, by omega⟩ (i 1)) := by
  entry_read
  idx_vars i
  pointwise

/-- The same sums with the positions last. -/
theorem s_at (c : Dev nD) (i : S4x128x2048.Idx) : V m c main_v2 i = m ((c : Thread nD τ).loc main_arg1) (ix3 (i 0) (i 2) (i 1)) := by
  entry_read
  idx_vars i
  pointwise

/-- The point's batch. -/
def bt (t : Fin cfg0.N) : Fin 4 := ⟨t.val / 8, by have : t.val < 32 := t.isLt; omega⟩

/-- The block of queries at an index. -/
theorem q_blk (c : Dev nD) (t : Fin cfg0.N) (r e : Fin 512) (q : Fin 2048) (j : Fin 6144) (hq : q.val = 512 * (t.val % 4) + r.val) (hj : j.val = 3072 + (t.val / 4 % 2 * 512 + e.val)) :
    iblk m c 0 t (ix2 r e) = m ((c : Thread nD τ).loc main_arg0) (ix3 (bt t) q j) := by
  have ht : t.val < 32 := t.isLt
  have e0 : (((cfg0.win 0).blk t).view.emb (ix2 r e) 0 : ℕ) = (t.val / 8 * 4 + t.val % 4) * 512 + r.val := by
    refine ((cfg0.win 0).rect_emb_val_off t (ix2 r e) _).trans ?_
    show win0_0.index t _ * _ + _ = _
    rw [(idx t).1]
    rfl
  have e1 : (((cfg0.win 0).blk t).view.emb (ix2 r e) 1 : ℕ) = (6 + t.val / 4 % 2) * 512 + e.val := by
    refine ((cfg0.win 0).rect_emb_val_off t (ix2 r e) _).trans ?_
    show win0_0.index t _ * _ + _ = _
    rw [(idx t).1]
    rfl
  refine (p_at m c _).trans (congrArg (m ((c : Thread nD τ).loc main_arg0)) (funext fun a => Fin.ext ?_))
  match a with
  | ⟨0, _⟩ => show (((cfg0.win 0).blk t).view.emb (ix2 r e) 0 : ℕ) / 2048 = t.val / 8; omega
  | ⟨1, _⟩ => show (((cfg0.win 0).blk t).view.emb (ix2 r e) 0 : ℕ) % 2048 = q.val; omega
  | ⟨2, _⟩ => show (((cfg0.win 0).blk t).view.emb (ix2 r e) 1 : ℕ) = j.val; omega

/-- The block of keys at an index. -/
theorem k_blk (c : Dev nD) (t : Fin cfg0.N) (r : Fin 2048) (e : Fin 512) (j : Fin 6144) (hj : j.val = 4096 + (t.val / 4 % 2 * 512 + e.val)) :
    iblk m c 1 t (ix2 r e) = m ((c : Thread nD τ).loc main_arg0) (ix3 (bt t) r j) := by
  have ht : t.val < 32 := t.isLt
  have e0 : (((cfg0.win 1).blk t).view.emb (ix2 r e) 0 : ℕ) = t.val / 8 * 2048 + r.val := by
    refine ((cfg0.win 1).rect_emb_val_off t (ix2 r e) _).trans ?_
    show win0_1.index t _ * _ + _ = _
    rw [(idx t).2.1]
    rfl
  have e1 : (((cfg0.win 1).blk t).view.emb (ix2 r e) 1 : ℕ) = (8 + t.val / 4 % 2) * 512 + e.val := by
    refine ((cfg0.win 1).rect_emb_val_off t (ix2 r e) _).trans ?_
    show win0_1.index t _ * _ + _ = _
    rw [(idx t).2.1]
    rfl
  refine (p_at m c _).trans (congrArg (m ((c : Thread nD τ).loc main_arg0)) (funext fun a => Fin.ext ?_))
  match a with
  | ⟨0, _⟩ => show (((cfg0.win 1).blk t).view.emb (ix2 r e) 0 : ℕ) / 2048 = t.val / 8; omega
  | ⟨1, _⟩ => show (((cfg0.win 1).blk t).view.emb (ix2 r e) 0 : ℕ) % 2048 = r.val; omega
  | ⟨2, _⟩ => show (((cfg0.win 1).blk t).view.emb (ix2 r e) 1 : ℕ) = j.val; omega

/-- The block of values at an index. -/
theorem v_blk (c : Dev nD) (t : Fin cfg0.N) (r : Fin 2048) (e : Fin 512) (j : Fin 6144) (hj : j.val = 5120 + (t.val / 4 % 2 * 512 + e.val)) :
    iblk m c 2 t (ix2 r e) = m ((c : Thread nD τ).loc main_arg0) (ix3 (bt t) r j) := by
  have ht : t.val < 32 := t.isLt
  have e0 : (((cfg0.win 2).blk t).view.emb (ix2 r e) 0 : ℕ) = t.val / 8 * 2048 + r.val := by
    refine ((cfg0.win 2).rect_emb_val_off t (ix2 r e) _).trans ?_
    show win0_2.index t _ * _ + _ = _
    rw [(idx t).2.2.1]
    rfl
  have e1 : (((cfg0.win 2).blk t).view.emb (ix2 r e) 1 : ℕ) = (10 + t.val / 4 % 2) * 512 + e.val := by
    refine ((cfg0.win 2).rect_emb_val_off t (ix2 r e) _).trans ?_
    show win0_2.index t _ * _ + _ = _
    rw [(idx t).2.2.1]
    rfl
  refine (p_at m c _).trans (congrArg (m ((c : Thread nD τ).loc main_arg0)) (funext fun a => Fin.ext ?_))
  match a with
  | ⟨0, _⟩ => show (((cfg0.win 2).blk t).view.emb (ix2 r e) 0 : ℕ) / 2048 = t.val / 8; omega
  | ⟨1, _⟩ => show (((cfg0.win 2).blk t).view.emb (ix2 r e) 0 : ℕ) % 2048 = r.val; omega
  | ⟨2, _⟩ => show (((cfg0.win 2).blk t).view.emb (ix2 r e) 1 : ℕ) = j.val; omega

/-- The block of the queries' sums at an index. -/
theorem g_blk (c : Dev nD) (t : Fin cfg0.N) (r : Fin 512) (e : Fin 128) (q : Fin 2048) (hq : q.val = 512 * (t.val % 4) + r.val) :
    iblk m c 3 t (ix2 r e) = m ((c : Thread nD τ).loc main_arg1) (ix3 (bt t) q e) := by
  have ht : t.val < 32 := t.isLt
  have e0 : (((cfg0.win 3).blk t).view.emb (ix2 r e) 0 : ℕ) = (t.val / 8 * 4 + t.val % 4) * 512 + r.val := by
    refine ((cfg0.win 3).rect_emb_val_off t (ix2 r e) _).trans ?_
    show win0_3.index t _ * _ + _ = _
    rw [(idx t).2.2.2.1]
    rfl
  have e1 : (((cfg0.win 3).blk t).view.emb (ix2 r e) 1 : ℕ) = 0 * 128 + e.val := by
    refine ((cfg0.win 3).rect_emb_val_off t (ix2 r e) _).trans ?_
    show win0_3.index t _ * _ + _ = _
    rw [(idx t).2.2.2.1]
    rfl
  refine (g_at m c _).trans (congrArg (m ((c : Thread nD τ).loc main_arg1)) (funext fun a => Fin.ext ?_))
  match a with
  | ⟨0, _⟩ => show (((cfg0.win 3).blk t).view.emb (ix2 r e) 0 : ℕ) / 2048 = t.val / 8; omega
  | ⟨1, _⟩ => show (((cfg0.win 3).blk t).view.emb (ix2 r e) 0 : ℕ) % 2048 = q.val; omega
  | ⟨2, _⟩ => show (((cfg0.win 3).blk t).view.emb (ix2 r e) 1 : ℕ) = e.val; omega

/-- The block of the keys' sums at an index. -/
theorem s_blk (c : Dev nD) (t : Fin cfg0.N) (e : Fin 8) (k : Fin 2048) (j : Fin 128) (hj : j.val = e.val) :
    iblk m c 4 t (ix3 0 e k) = m ((c : Thread nD τ).loc main_arg1) (ix3 (bt t) k j) := by
  have ht : t.val < 32 := t.isLt
  have e0 : (((cfg0.win 4).blk t).view.emb (ix3 0 e k) 0 : ℕ) = t.val / 8 * 1 + 0 := by
    refine ((cfg0.win 4).rect_emb_val_off t (ix3 0 e k) _).trans ?_
    show win0_4.index t _ * _ + _ = _
    rw [(idx t).2.2.2.2.1]
    rfl
  have e1 : (((cfg0.win 4).blk t).view.emb (ix3 0 e k) 1 : ℕ) = 0 * 8 + e.val := by
    refine ((cfg0.win 4).rect_emb_val_off t (ix3 0 e k) _).trans ?_
    show win0_4.index t _ * _ + _ = _
    rw [(idx t).2.2.2.2.1]
    rfl
  have e2 : (((cfg0.win 4).blk t).view.emb (ix3 0 e k) 2 : ℕ) = 0 * 2048 + k.val := by
    refine ((cfg0.win 4).rect_emb_val_off t (ix3 0 e k) _).trans ?_
    show win0_4.index t _ * _ + _ = _
    rw [(idx t).2.2.2.2.1]
    rfl
  refine (s_at m c _).trans (congrArg (m ((c : Thread nD τ).loc main_arg1)) (funext fun a => Fin.ext ?_))
  match a with
  | ⟨0, _⟩ => show (((cfg0.win 4).blk t).view.emb (ix3 0 e k) 0 : ℕ) = t.val / 8; omega
  | ⟨1, _⟩ => show (((cfg0.win 4).blk t).view.emb (ix3 0 e k) 2 : ℕ) = k.val; omega
  | ⟨2, _⟩ => show (((cfg0.win 4).blk t).view.emb (ix3 0 e k) 1 : ℕ) = j.val; omega

/-- The place of a row of the point's block. -/
def qr (t : Fin cfg0.N) (r : Fin 512) : Fin 2048 := ⟨512 * (t.val % 4) + r.val, by omega⟩

/-- A score over the point's blocks is the reference's. -/
theorem bs_eq (c : Dev nD) (t : Fin cfg0.N) (h : Fin 4) (r : Fin 512) (k : Fin 2048) :
    bs (iblk m c 0 t) (iblk m c 1 t) (iblk m c 3 t) (iblk m c 4 t) (hd t h) h r k
      = rs (m ((c : Thread nD τ).loc main_arg0)) (m ((c : Thread nD τ).loc main_arg1)) (bt t) (hd t h) (qr t r) k := by
  unfold bs rs
  rw [g_blk m c t r _ (qr t r) rfl, s_blk m c t (hd t h) k ⟨(hd t h).val, by omega⟩ rfl]
  refine congrArg (fun z => z * ((11863283 / 134217728 : ℝ) : EReal) + _ - _) (Finset.sum_congr rfl fun d _ => ?_)
  rw [q_blk m c t r _ (qr t r) ⟨3072 + ((hd t h).val * 128 + d.val), by omega⟩ rfl (by show 3072 + ((t.val / 4 % 2 * 4 + h.val) * 128 + d.val) = 3072 + (t.val / 4 % 2 * 512 + (h.val * 128 + d.val)); omega),
    k_blk m c t k _ ⟨3072 + (1024 + ((hd t h).val * 128 + d.val)), by omega⟩ (by show 3072 + (1024 + ((t.val / 4 % 2 * 4 + h.val) * 128 + d.val)) = 4096 + (t.val / 4 % 2 * 512 + (h.val * 128 + d.val)); omega)]

/-- A row's scores over the point's blocks are the reference's. -/
theorem bu_eq (c : Dev nD) (t : Fin cfg0.N) (h : Fin 4) (r : Fin 512) :
    bu (iblk m c 0 t) (iblk m c 1 t) (iblk m c 3 t) (iblk m c 4 t) (hd t h) h (qb t) r
      = ru (m ((c : Thread nD τ).loc main_arg0)) (m ((c : Thread nD τ).loc main_arg1)) (bt t) (hd t h) (qr t r) := by
  funext k
  unfold bu ru
  by_cases hk : k ≤ 512 * (t.val % 4) + r.val
  · rw [dif_pos (show k ≤ 512 * (qb t).val + r.val from hk), dif_pos (show k ≤ (qr t r).val from hk)]
    exact bs_eq m c t h r _
  · rw [dif_neg (show ¬ k ≤ 512 * (qb t).val + r.val from hk), dif_neg (show ¬ k ≤ (qr t r).val from hk)]

/-- A column of the values over the point's block is the reference's. -/
theorem bw_eq (c : Dev nD) (t : Fin cfg0.N) (h : Fin 4) (d : Fin 128) :
    bw (iblk m c 2 t) h d = rv (m ((c : Thread nD τ).loc main_arg0)) (bt t) (hd t h) d := by
  funext k
  unfold bw rv
  by_cases hk : k < 2048
  · rw [dif_pos hk, dif_pos hk]
    exact v_blk m c t ⟨k, hk⟩ _ _ (by show 3072 + (2048 + ((t.val / 4 % 2 * 4 + h.val) * 128 + d.val)) = 5120 + (t.val / 4 % 2 * 512 + (h.val * 128 + d.val)); omega)
  · rw [dif_neg hk, dif_neg hk]

section

variable [Cert.Pre_finite7.Facts]

/-- A row's quotient over the point's blocks is the reference's weighted mean. -/
theorem mean_eq (c : Dev nD) (hf : Cert.Pre_finite7.fn (F := Ideal) (m ((c : Thread nD τ).loc main_arg0)) (m ((c : Thread nD τ).loc main_arg1)) = fun _ => 1#1)
    (t : Fin cfg0.N) (h : Fin 4) (r : Fin 512) (d : Fin 128) :
    hv (iblk m c 0 t) (iblk m c 1 t) (iblk m c 2 t) (iblk m c 3 t) (iblk m c 4 t) t h r d
      = ∑ k : Fin 2048, rv (m ((c : Thread nD τ).loc main_arg0)) (bt t) (hd t h) d k.val
          * Ideal.div (Ideal.exp (ru (m ((c : Thread nD τ).loc main_arg0)) (m ((c : Thread nD τ).loc main_arg1)) (bt t) (hd t h) (qr t r) k.val
              - Cert.Layer.top (ru (m ((c : Thread nD τ).loc main_arg0)) (m ((c : Thread nD τ).loc main_arg1)) (bt t) (hd t h) (qr t r)) 2048))
            (0 + ∑ j : Fin 2048, Ideal.exp (ru (m ((c : Thread nD τ).loc main_arg0)) (m ((c : Thread nD τ).loc main_arg1)) (bt t) (hd t h) (qr t r) j.val
              - Cert.Layer.top (ru (m ((c : Thread nD τ).loc main_arg0)) (m ((c : Thread nD τ).loc main_arg1)) (bt t) (hd t h) (qr t r)) 2048)) := by
  unfold hv
  rw [bu_eq, bw_eq]
  refine soft_eq (q := (qr t r).val) (by show 512 * (t.val % 4 + 1) ≤ 2048; omega) (fun k hk => ?_) (by show 512 * (t.val % 4) + r.val < 512 * (t.val % 4 + 1); omega)
    (ru_ne_bot hf _ _ _) (ru_ne_top hf _ _ _)
  have hk' : 512 * (t.val % 4 + 1) ≤ k := hk
  exact dif_neg (by show ¬ k ≤ 512 * (t.val % 4) + r.val; omega)

/-- What a point stores is the reference at the place its block element sits at. -/
theorem point (c : Dev nD) (hf : Cert.Pre_finite7.fn (F := Ideal) (m ((c : Thread nD τ).loc main_arg0)) (m ((c : Thread nD τ).loc main_arg1)) = fun _ => 1#1)
    (t : Fin cfg0.N) (y : S512x512.Idx) :
    outsAt0 m c t y = REF (m ((c : Thread nD τ).loc main_arg0)) (m ((c : Thread nD τ).loc main_arg1)) (((cfg0.win 5).blk t).view.emb y) := by
  have ht : t.val < 32 := t.isLt
  have h0 : (y 0).val < 512 := (y 0).isLt
  have h1 : (y 1).val < 512 := (y 1).isLt
  have e0 : (((cfg0.win 5).blk t).view.emb y 0 : ℕ) = (t.val / 8 * 4 + t.val % 4) * 512 + (y 0).val := by
    refine ((cfg0.win 5).rect_emb_val_off t y _).trans ?_
    show win0_5.index t _ * _ + _ = _
    rw [(idx t).2.2.2.2.2]
    rfl
  have e1 : (((cfg0.win 5).blk t).view.emb y 1 : ℕ) = t.val / 4 % 2 * 512 + (y 1).val := by
    refine ((cfg0.win 5).rect_emb_val_off t y _).trans ?_
    show win0_5.index t _ * _ + _ = _
    rw [(idx t).2.2.2.2.2]
    rfl
  refine Eq.trans ?_ (Cert.Reference7Ideal.Fox.out_at (m ((c : Thread nD τ).loc main_arg0)) (m ((c : Thread nD τ).loc main_arg1)) (bt t) (hd t ⟨(y 1).val / 128, by omega⟩) ⟨(y 1).val % 128, by omega⟩ (qr t (y 0))
    (((cfg0.win 5).blk t).view.emb y)
    (e0.trans (by show _ = t.val / 8 * 2048 + (512 * (t.val % 4) + (y 0).val); omega))
    (e1.trans (by show _ = (t.val / 4 % 2 * 4 + (y 1).val / 128) * 128 + (y 1).val % 128; omega))).symm
  unfold outsAt0
  exact (out_at _ _ _ _ _ c t _ _ _ _ _ _ _ _ _ _ _ _ y).trans (mean_eq m c hf t _ (y 0) _)

/-- The output array after the run. -/
theorem final (c : Dev nD) (hf : Cert.Pre_finite7.fn (F := Ideal) (m ((c : Thread nD τ).loc main_arg0)) (m ((c : Thread nD τ).loc main_arg1)) = fun _ => 1#1) :
    (dats m 0 c).arrAt 5 cfg0.N = REF (m ((c : Thread nD τ).loc main_arg0)) (m ((c : Thread nD τ).loc main_arg1)) := by
  refine (dats m 0 c).arrAt_eq_of_covers 5 _ (by decide +kernel) fun t _ y => ?_
  blk_simp
  rw [after0_5]
  exact point m c hf t y

end

end Cert.Kernel7Ideal.Fox

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Norm
public import proofs.«01_k».proof.Proof.Small
public import proofs.«01_k».proof.Proof.Sgu
public import proofs.«01_k».proof.Proof.FeedX
public import proofs.«01_k».proof.Proof.FeedXBitsFrame
public import proofs.«01_k».proof.Proof.Gates
public import proofs.«01_k».proof.Proof.Feed
public import proofs.«01_k».proof.Proof.Cd
public import proofs.«01_k».proof.Proof.Ab
public import proofs.«01_k».proof.Proof.Merge
public import proofs.«01_k».proof.Proof.Out
public import proofs.«01_k».proof.Proof.FoxVal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

theorem refFrame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Gates.REF (m ((c : Thread Cert.KernelIdeal.nD Cert.KernelIdeal.τ).loc Cert.KernelIdeal.main_arg0)) (m ((c : Thread Cert.KernelIdeal.nD Cert.KernelIdeal.τ).loc Cert.KernelIdeal.main_arg1)),
    (θ_run Cert.KernelIdeal.defs _ _).mono (fun r h c => ⟨(h c).1.trans (Cert.KernelIdeal.Gates.final m c), (h c).2⟩)
      (Cert.KernelIdeal.Value.run_blocks (F := Ideal) m ρ),
    (θ_run Cert.ReferenceIdeal.defs _ _).mono (fun r h c => ⟨(h c).1.trans (by rw [(hag c).1, (hag c).2]; rfl), (h c).2⟩)
      (Cert.ReferenceIdeal.Value.run (F := Ideal) m' ρ')⟩

theorem refFrame2 : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) := fun m ρ m' ρ' _ hag =>
  ⟨fun c => Cert.Kernel2Ideal.Feed.REF (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)),
    (θ_run Cert.Kernel2Ideal.defs _ _).mono (fun r h c => ⟨(h c).1.trans (Cert.Kernel2Ideal.Feed.final m c), (h c).2⟩)
      (Cert.Kernel2Ideal.Value.run_blocks (F := Ideal) m ρ),
    (θ_run Cert.Reference2Ideal.defs _ _).mono (fun r h c => ⟨(h c).1.trans ((Cert.Reference2Ideal.Read.val_main_v27_eq m' c).trans (by rw [(hag c).1, (hag c).2.1, (hag c).2.2.1, (hag c).2.2.2.1, (hag c).2.2.2.2])), (h c).2⟩)
      (Cert.Reference2Ideal.Value.run (F := Ideal) m' ρ')⟩

theorem refFrame3 : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run (F := Ideal) m ρ)

theorem algebraic3 : Cert.algebraic_Kernel3Ideal_Reference3Ideal (hKernel3Ideal := Cert.Kernel3Ideal.Gen.facts)
    (hReference3Ideal := Cert.Reference3Ideal.Gen.facts) := fun m ρ m' ρ' _ hag =>
  ⟨fun c => Cert.Kernel3Ideal.Proj.REF (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)),
    (θ_run Cert.Kernel3Ideal.defs _ _).mono (fun r h c => ⟨(h c).1.trans (Cert.Kernel3Ideal.Proj.final m c), (h c).2⟩)
      (Cert.Kernel3Ideal.Value.run_blocks (F := Ideal) m ρ),
    (θ_run Cert.Reference3Ideal.defs _ _).mono (fun r h c => ⟨(h c).1.trans (by rw [(hag c).1, (hag c).2]; rfl), (h c).2⟩)
      (Cert.Reference3Ideal.Value.run (F := Ideal) m' ρ')⟩

theorem refFrame4 : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run (F := Ideal) m ρ)

theorem algebraic4 : Cert.algebraic_Kernel4Ideal_Reference4Ideal (hKernel4Ideal := Cert.Kernel4Ideal.Gen.facts)
    (hReference4Ideal := Cert.Reference4Ideal.Gen.facts) := fun m ρ m' ρ' _ hag =>
  ⟨fun c => Cert.Kernel4Ideal.Proj.REF (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)),
    (θ_run Cert.Kernel4Ideal.defs _ _).mono (fun r h c => ⟨(h c).1.trans (Cert.Kernel4Ideal.Proj.final m c), (h c).2⟩)
      (Cert.Kernel4Ideal.Value.run_blocks (F := Ideal) m ρ),
    (θ_run Cert.Reference4Ideal.defs _ _).mono (fun r h c => ⟨(h c).1.trans (by rw [(hag c).1, (hag c).2]; rfl), (h c).2⟩)
      (Cert.Reference4Ideal.Value.run (F := Ideal) m' ρ')⟩

theorem refFrame5 : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩) (Cert.Reference5Ideal.Value.run (F := Ideal) m ρ)

theorem algebraic5 : Cert.algebraic_Kernel5Ideal_Reference5Ideal (hKernel5Ideal := Cert.Kernel5Ideal.Gen.facts)
    (hReference5Ideal := Cert.Reference5Ideal.Gen.facts) := fun m ρ m' ρ' _ hag =>
  ⟨fun c => Cert.Kernel5Ideal.Merge.REF (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) (m ((c : Thread Cert.Kernel5Ideal.nD Cert.Kernel5Ideal.τ).loc Cert.Kernel5Ideal.main_arg4)) (m ((c : Thread Cert.Kernel5Ideal.nD Cert.Kernel5Ideal.τ).loc Cert.Kernel5Ideal.main_arg5)),
    (θ_run Cert.Kernel5Ideal.defs _ _).mono (fun r h c => ⟨(h c).1.trans (Cert.Kernel5Ideal.Merge.final m c), (h c).2⟩)
      (Cert.Kernel5Ideal.Value.run_blocks (F := Ideal) m ρ),
    (θ_run Cert.Reference5Ideal.defs _ _).mono (fun r h c => ⟨(h c).1.trans (by rw [(hag c).1, (hag c).2.1, (hag c).2.2.1, (hag c).2.2.2.1, (hag c).2.2.2.2.1, (hag c).2.2.2.2.2]; rfl), (h c).2⟩)
      (Cert.Reference5Ideal.Value.run (F := Ideal) m' ρ')⟩

theorem refFrame6 : Cert.quiescent_Reference6Ideal (hReference6Ideal := Cert.Reference6Ideal.Gen.facts) :=
  fun m ρ _ => (θ_run Cert.Reference6Ideal.defs _ _).mono
    (fun r h => ⟨fun c => (h c).2.2, sem_eq_zero_of_no_sems (by decide) r.2⟩) (Cert.Reference6Ideal.Value.run (F := Ideal) m ρ)

theorem algebraic6 : Cert.algebraic_Kernel6Ideal_Reference6Ideal (hKernel6Ideal := Cert.Kernel6Ideal.Gen.facts)
    (hReference6Ideal := Cert.Reference6Ideal.Gen.facts) := fun m ρ m' ρ' _ hag =>
  ⟨fun c => Cert.Kernel6Ideal.Out.REFX (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)),
   fun c => Cert.Kernel6Ideal.Out.REFH (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)),
    (θ_run Cert.Kernel6Ideal.defs _ _).mono (fun r h c => ⟨(h c).1.trans (Cert.Kernel6Ideal.Out.finalX m c), (h c).2.1.trans (Cert.Kernel6Ideal.Out.finalH m c), (h c).2.2⟩)
      (Cert.Kernel6Ideal.Value.run_blocks (F := Ideal) m ρ),
    (θ_run Cert.Reference6Ideal.defs _ _).mono (fun r h c => ⟨(h c).1.trans (by rw [(hag c).1, (hag c).2.1, (hag c).2.2.1]; rfl), (h c).2.1.trans (by rw [(hag c).1, (hag c).2.1, (hag c).2.2.1, (hag c).2.2.2]; rfl), (h c).2.2⟩)
      (Cert.Reference6Ideal.Value.run (F := Ideal) m' ρ')⟩

theorem refFrame7 : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩) (Cert.Reference7Ideal.Value.run (F := Ideal) m ρ)

theorem preserves7 : Cert.preserves_Kernel7_Kernel7Ideal :=
  ⟨IdealRules.named_const.statement Cert.Kernel7Ideal.κ "log2e" .f32 0x3FB8AA3B#32 (((Real.log 2)⁻¹ : ℝ) : EReal) rfl,
    IdealRules.named_const.statement Cert.Kernel7Ideal.κ "scale_log2e" .f32 0x3E0293EE#32 (((Real.log 2)⁻¹ * (11863283 / 134217728) : ℝ) : EReal) rfl⟩

theorem algebraic7 : Cert.algebraic_Kernel7Ideal_Reference7Ideal_pre_finite7 (hKernel7Ideal := Cert.Kernel7Ideal.Gen.facts)
    (hReference7Ideal := Cert.Reference7Ideal.Gen.facts) (hPre_finite7 := Cert.Pre_finite7.facts) := fun m ρ m' ρ' hf hag =>
  ⟨fun c => Cert.Kernel7Ideal.Fox.REF (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)),
    (θ_run Cert.Kernel7Ideal.defs _ _).mono (fun r h c => ⟨(h c).1.trans (@Cert.Kernel7Ideal.Fox.final m Cert.Pre_finite7.facts c (hf c)), (h c).2⟩)
      (Cert.Kernel7Ideal.Value.run_blocks (F := Ideal) m ρ),
    (θ_run Cert.Reference7Ideal.defs _ _).mono (fun r h c => ⟨(h c).1.trans ((Cert.Reference7Ideal.Read.val_main_v41_eq m' c).trans (by rw [(hag c).1, (hag c).2])), (h c).2⟩)
      (Cert.Reference7Ideal.Value.run (F := Ideal) m' ρ')⟩

theorem frame8 : Cert.quiescent_Kernel8 (hKernel8 := Cert.Kernel8.Gen.facts) :=
  fun m ρ _ => (θ_run Cert.Kernel8.defs _ _).mono (fun r h => ⟨fun c => (h.1 c).2.2, h.2⟩) (Cert.Kernel8.FeedX.run (F := Bits) m ρ)

theorem idealFrame8 : Cert.quiescent_Kernel8Ideal (hKernel8Ideal := Cert.Kernel8Ideal.Gen.facts) :=
  fun m ρ _ => (θ_run Cert.Kernel8Ideal.defs _ _).mono (fun r h => ⟨fun c => (h.1 c).2.2, h.2⟩) (Cert.Kernel8Ideal.FeedX.run (F := Ideal) m ρ)

theorem refFrame8 : Cert.quiescent_Reference8Ideal (hReference8Ideal := Cert.Reference8Ideal.Gen.facts) :=
  fun m ρ _ => (θ_run Cert.Reference8Ideal.defs _ _).mono
    (fun r h => ⟨fun c => (h c).2.2, sem_eq_zero_of_no_sems (by decide) r.2⟩) (Cert.Reference8Ideal.Value.run (F := Ideal) m ρ)

theorem algebraic8 : Cert.algebraic_Kernel8Ideal_Reference8Ideal (hKernel8Ideal := Cert.Kernel8Ideal.Gen.facts)
    (hReference8Ideal := Cert.Reference8Ideal.Gen.facts) := fun m ρ m' ρ' _ hag =>
  ⟨fun c => Cert.Kernel8Ideal.FeedX.REFX (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)),
    fun c => Cert.Kernel8Ideal.FeedX.REFH (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4)),
    (θ_run Cert.Kernel8Ideal.defs _ _).mono (fun r h c => ⟨(h.1 c).1.trans (Cert.Kernel8Ideal.FeedX.finalX m c),
        (h.1 c).2.1.trans (Cert.Kernel8Ideal.FeedX.finalH m c), (h.1 c).2.2⟩)
      (Cert.Kernel8Ideal.FeedX.run (F := Ideal) m ρ),
    (θ_run Cert.Reference8Ideal.defs _ _).mono (fun r h c => ⟨(h c).1.trans ((Cert.Reference8Ideal.Read.val_main_v29_eq _ _ _ _).trans
          (by rw [(hag c).1, (hag c).2.1, (hag c).2.2.1, (hag c).2.2.2.1])),
        (h c).2.1.trans ((Cert.Reference8Ideal.Read.val_main_v31_eq m' c).trans
          (by rw [(hag c).1, (hag c).2.1, (hag c).2.2.1, (hag c).2.2.2.1, (hag c).2.2.2.2])), (h c).2.2⟩)
      (Cert.Reference8Ideal.Value.run (F := Ideal) m' ρ')⟩

theorem refFrame9 : Cert.quiescent_Reference9Ideal (hReference9Ideal := Cert.Reference9Ideal.Gen.facts) :=
  fun m ρ _ => (θ_run Cert.Reference9Ideal.defs _ _).mono
    (fun r h => ⟨fun c => (h c).2, sem_eq_zero_of_no_sems (by decide) r.2⟩) (Cert.Reference9Ideal.Value.run (F := Ideal) m ρ)

theorem algebraic9 : Cert.algebraic_Kernel9Ideal_Reference9Ideal (hKernel9Ideal := Cert.Kernel9Ideal.Gen.facts)
    (hReference9Ideal := Cert.Reference9Ideal.Gen.facts) := fun m ρ m' ρ' _ hag =>
  ⟨fun c => Cert.Kernel9Ideal.Norm.REF (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)),
    (θ_run Cert.Kernel9Ideal.defs _ _).mono (fun r h c => ⟨(h c).1.trans (Cert.Kernel9Ideal.Norm.final m c), (h c).2⟩)
      (Cert.Kernel9Ideal.Value.run_blocks (F := Ideal) m ρ),
    (θ_run Cert.Reference9Ideal.defs _ _).mono (fun r h c => ⟨(h c).1.trans ((by rw [(hag c).1, (hag c).2]; rfl)), (h c).2⟩)
      (Cert.Reference9Ideal.Value.run (F := Ideal) m' ρ')⟩

theorem refFrame10 : Cert.quiescent_Reference10Ideal (hReference10Ideal := Cert.Reference10Ideal.Gen.facts) :=
  fun m ρ _ => (θ_run Cert.Reference10Ideal.defs _ _).mono
    (fun r h => ⟨fun c => (h c).2, sem_eq_zero_of_no_sems (by decide) r.2⟩) (Cert.Reference10Ideal.Value.run (F := Ideal) m ρ)

theorem algebraic10 : Cert.algebraic_Kernel10Ideal_Reference10Ideal (hKernel10Ideal := Cert.Kernel10Ideal.Gen.facts)
    (hReference10Ideal := Cert.Reference10Ideal.Gen.facts) := fun m ρ m' ρ' _ hag =>
  ⟨fun c => Cert.Kernel10Ideal.Small.REF (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)),
    (θ_run Cert.Kernel10Ideal.defs _ _).mono (fun r h c => ⟨(h c).1.trans (Cert.Kernel10Ideal.Small.final m c), (h c).2⟩)
      (Cert.Kernel10Ideal.Value.run_blocks (F := Ideal) m ρ),
    (θ_run Cert.Reference10Ideal.defs _ _).mono (fun r h c => ⟨(h c).1.trans ((by rw [(hag c).1, (hag c).2]; rfl)), (h c).2⟩)
      (Cert.Reference10Ideal.Value.run (F := Ideal) m' ρ')⟩

theorem refFrame11 : Cert.quiescent_Reference11Ideal (hReference11Ideal := Cert.Reference11Ideal.Gen.facts) :=
  fun m ρ _ => (θ_run Cert.Reference11Ideal.defs _ _).mono
    (fun r h => ⟨fun c => (h c).2, sem_eq_zero_of_no_sems (by decide) r.2⟩) (Cert.Reference11Ideal.Value.run (F := Ideal) m ρ)

theorem algebraic11 : Cert.algebraic_Kernel11Ideal_Reference11Ideal (hKernel11Ideal := Cert.Kernel11Ideal.Gen.facts)
    (hReference11Ideal := Cert.Reference11Ideal.Gen.facts) := fun m ρ m' ρ' _ hag =>
  ⟨fun c => Cert.Kernel11Ideal.Sgu.REF (m ((c : Thread Cert.Kernel11Ideal.nD Cert.Kernel11Ideal.τ).loc Cert.Kernel11Ideal.main_arg0)) (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)) (m ((c : Thread Cert.Kernel11Ideal.nD Cert.Kernel11Ideal.τ).loc Cert.Kernel11Ideal.main_arg3)),
    (θ_run Cert.Kernel11Ideal.defs _ _).mono (fun r h c => ⟨(h c).1.trans (Cert.Kernel11Ideal.Sgu.final m c), (h c).2⟩)
      (Cert.Kernel11Ideal.Value.run_blocks (F := Ideal) m ρ),
    (θ_run Cert.Reference11Ideal.defs _ _).mono (fun r h c => ⟨(h c).1.trans (((Cert.Reference11Ideal.Read.val_main_v60_eq m' c).trans (by rw [(hag c).1, (hag c).2.1, (hag c).2.2.1, (hag c).2.2.2]))), (h c).2⟩)
      (Cert.Reference11Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite7.facts,
  fun m ρ _ => Cert.Kernel.Gen.frame m ρ, fun m ρ _ => Cert.KernelIdeal.Gen.frame m ρ, refFrame,
  fun m ρ _ => Cert.Kernel2.Gen.frame m ρ, fun m ρ _ => Cert.Kernel2Ideal.Gen.frame m ρ, refFrame2,
  fun m ρ _ => Cert.Kernel3.Gen.frame m ρ, fun m ρ _ => Cert.Kernel3Ideal.Gen.frame m ρ, refFrame3,
  fun m ρ _ => Cert.Kernel4.Gen.frame m ρ, fun m ρ _ => Cert.Kernel4Ideal.Gen.frame m ρ, refFrame4,
  fun m ρ _ => Cert.Kernel5.Gen.frame m ρ, fun m ρ _ => Cert.Kernel5Ideal.Gen.frame m ρ, refFrame5,
  fun m ρ _ => Cert.Kernel6.Gen.frame m ρ, fun m ρ _ => Cert.Kernel6Ideal.Gen.frame m ρ, refFrame6,
  fun m ρ _ => Cert.Kernel7.Gen.frame m ρ, fun m ρ _ => Cert.Kernel7Ideal.Gen.frame m ρ, fun m ρ _ => Cert.Kernel7Ideal.Gen.frame m ρ, refFrame7,
  fun m ρ _ => refFrame7 m ρ trivial, frame8, idealFrame8, refFrame8,
  fun m ρ _ => Cert.Kernel9.Gen.frame m ρ, fun m ρ _ => Cert.Kernel9Ideal.Gen.frame m ρ, refFrame9,
  fun m ρ _ => Cert.Kernel10.Gen.frame m ρ, fun m ρ _ => Cert.Kernel10Ideal.Gen.frame m ρ, refFrame10,
  fun m ρ _ => Cert.Kernel11.Gen.frame m ρ, fun m ρ _ => Cert.Kernel11Ideal.Gen.frame m ρ, refFrame11,
  trivial, algebraic, trivial, algebraic2, trivial, algebraic3, trivial, algebraic4, trivial, algebraic5, trivial, algebraic6, preserves7, algebraic7, trivial, algebraic8,
  trivial, algebraic9, trivial, algebraic10, trivial, algebraic11⟩

end Cert.Proof

end
